-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S_ : Shape := ⟨0, ![]⟩
abbrev S2x256x4x64 : Shape := ⟨4, ![2, 256, 4, 64]⟩
abbrev S2x4x256x64 : Shape := ⟨4, ![2, 4, 256, 64]⟩
abbrev S3x2x64x512 : Shape := ⟨4, ![3, 2, 64, 512]⟩
abbrev S2x64x512 : Shape := ⟨3, ![2, 64, 512]⟩
abbrev S3 : Shape := ⟨1, ![3]⟩
abbrev S256x256 : Shape := ⟨2, ![256, 256]⟩
abbrev S512x512 : Shape := ⟨2, ![512, 512]⟩
abbrev S256x64 : Shape := ⟨2, ![256, 64]⟩
abbrev S1x1x256x64 : Shape := ⟨4, ![1, 1, 256, 64]⟩
abbrev S256 : Shape := ⟨1, ![256]⟩
abbrev S256x1 : Shape := ⟨2, ![256, 1]⟩
abbrev S1 : Shape := ⟨1, ![1]⟩
abbrev S1x2x64x512 : Shape := ⟨4, ![1, 2, 64, 512]⟩

abbrev nBuf : Space → Nat
  | .hbm => 36
  | .vmem => 10
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x16x64, .bf16⟩
  | .hbm, ⟨3, _⟩ => ⟨S2x256x16x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x4x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x4x64, .bf16⟩
  | .hbm, ⟨33, _⟩ => ⟨S2x4x256x64, .bf16⟩
  | .hbm, ⟨34, _⟩ => ⟨S2x4x256x64, .bf16⟩
  | .hbm, ⟨35, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x4x256x64, .bf16⟩
  | .local _ .vmem, ⟨3, _⟩ => ⟨S2x4x256x64, .bf16⟩
  | .local _ .vmem, ⟨4, _⟩ => ⟨S256x512, .bf16⟩
  | .local _ .vmem, ⟨5, _⟩ => ⟨S2x256x512, .f32⟩
  | .local _ .vmem, ⟨6, _⟩ => ⟨S2x256x512, .bf16⟩
  | .local _ .vmem, ⟨7, _⟩ => ⟨S3x2x64x512, .bf16⟩
  | .local _ .vmem, ⟨8, _⟩ => ⟨S2x64x512, .bf16⟩
  | .local _ .vmem, ⟨9, _⟩ => ⟨S3x2x64x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_135 : BitVec 32) : Fin 3 → Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v217 : BitVec 32 := Scalar.addi v2 c1_i32_135
  let c4_i32_136 : BitVec 32 := 4#32
  let v218 : BitVec 32 := Scalar.remsi v217 c4_i32_136
  let c64_i32 : BitVec 32 := 64#32
  let v219 : BitVec 32 := Scalar.muli v218 c64_i32
  let c0_i32_146 : BitVec 32 := 0#32
  ![0, v219.toNat, 0]
def k0_dev4 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_135 : BitVec 32 := 1#32
  let v217 : BitVec 32 := Scalar.addi v2 c1_i32_135
  let c4_i32_136 : BitVec 32 := 4#32
  let v218 : BitVec 32 := Scalar.remsi v217 c4_i32_136
  let c1_i32_140 : BitVec 32 := 1#32
  let v220 : BitVec 32 := Scalar.muli v218 c1_i32_140
  let v221 : BitVec 32 := Scalar.addi c0_i32_141 v220
  v221.toNat
def k0_dev5 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_147 : BitVec 32 := 2#32
  let v229 : BitVec 32 := Scalar.addi v2 c2_i32_147
  let c4_i32_148 : BitVec 32 := 4#32
  let v230 : BitVec 32 := Scalar.remsi v229 c4_i32_148
  let c1_i32_153 : BitVec 32 := 1#32
  let v232 : BitVec 32 := Scalar.muli v230 c1_i32_153
  let v233 : BitVec 32 := Scalar.addi c0_i32_154 v232
  v233.toNat
def k0_dev6 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_160 : BitVec 32 := 3#32
  let v241 : BitVec 32 := Scalar.addi v2 c3_i32_160
  let c4_i32_161 : BitVec 32 := 4#32
  let v242 : BitVec 32 := Scalar.remsi v241 c4_i32_161
  let c1_i32_166 : BitVec 32 := 1#32
  let v244 : BitVec 32 := Scalar.muli v242 c1_i32_166
  let v245 : BitVec 32 := Scalar.addi c0_i32_167 v244
  v245.toNat
def k0_off2 (d0 : Dev nD) : Fin 3 → Nat :=
  let c0_174 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_173 : BitVec 32 := 64#32
  let v253 : BitVec 32 := Scalar.muli v2 c64_i32_173
  let v254 : Index := Scalar.indexCast v253
  let c0_175 : Index := 0#32
  ![0, v254.toNat, 0]
def k0_dev7 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_224 : BitVec 32 := 1#32
  let v297 : BitVec 32 := Scalar.addi v2 c1_i32_224
  let c4_i32_225 : BitVec 32 := 4#32
  let v298 : BitVec 32 := Scalar.remsi v297 c4_i32_225
  let c1_i32_229 : BitVec 32 := 1#32
  let v299 : BitVec 32 := Scalar.muli v298 c1_i32_229
  let v300 : BitVec 32 := Scalar.addi c0_i32_230 v299
  v300.toNat
def k0_dev8 (d0 : Dev nD) : Nat :=
  let c0_i32_240 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_234 : BitVec 32 := 2#32
  let v307 : BitVec 32 := Scalar.addi v2 c2_i32_234
  let c4_i32_235 : BitVec 32 := 4#32
  let v308 : BitVec 32 := Scalar.remsi v307 c4_i32_235
  let c1_i32_239 : BitVec 32 := 1#32
  let v309 : BitVec 32 := Scalar.muli v308 c1_i32_239
  let v310 : BitVec 32 := Scalar.addi c0_i32_240 v309
  v310.toNat
def k0_dev9 (d0 : Dev nD) : Nat :=
  let c0_i32_250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_244 : BitVec 32 := 3#32
  let v317 : BitVec 32 := Scalar.addi v2 c3_i32_244
  let c4_i32_245 : BitVec 32 := 4#32
  let v318 : BitVec 32 := Scalar.remsi v317 c4_i32_245
  let c1_i32_249 : BitVec 32 := 1#32
  let v319 : BitVec 32 := Scalar.muli v318 c1_i32_249
  let v320 : BitVec 32 := Scalar.addi c0_i32_250 v319
  v320.toNat
def k0_off3 (d0 : Dev nD) (c1_i32_262 : BitVec 32) : Fin 3 → Nat :=
  let c0_269 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v333 : BitVec 32 := Scalar.addi v2 c1_i32_262
  let c4_i32_263 : BitVec 32 := 4#32
  let v334 : BitVec 32 := Scalar.remsi v333 c4_i32_263
  let c64_i32_268 : BitVec 32 := 64#32
  let v338 : BitVec 32 := Scalar.muli v334 c64_i32_268
  let v339 : Index := Scalar.indexCast v338
  let c0_270 : Index := 0#32
  ![0, v339.toNat, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S2x256x1024 : Shape := ⟨3, ![2, 256, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x16x256x256 : Shape := ⟨4, ![2, 16, 256, 256]⟩
abbrev S1x1x256x256 : Shape := ⟨4, ![1, 1, 256, 256]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 60
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x1024, .bf16⟩
  | .hbm, ⟨2, _⟩ => ⟨S2x256x16x64, .bf16⟩
  | .hbm, ⟨3, _⟩ => ⟨S2x256x16x64, .bf16⟩
  | .hbm, ⟨4, _⟩ => ⟨S1024x512, .bf16⟩
  | .hbm, ⟨5, _⟩ => ⟨S2x256x1024, .f32⟩
  | .hbm, ⟨6, _⟩ => ⟨S2x256x1024, .bf16⟩
  | .hbm, ⟨7, _⟩ => ⟨S2x256x16x64, .bf16⟩
  | .hbm, ⟨8, _⟩ => ⟨S256, .i32⟩
  | .hbm, ⟨9, _⟩ => ⟨S256x1, .i32⟩
  | .hbm, ⟨10, _⟩ => ⟨S256, .i32⟩
  | .hbm, ⟨11, _⟩ => ⟨S1x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S2x16x256x256, .f32⟩
  | .hbm, ⟨20, _⟩ => ⟨S2x16x256x256, .bf16⟩
  | .hbm, ⟨21, _⟩ => ⟨S2x16x256x256, .f32⟩
  | .hbm, ⟨22, _⟩ => ⟨S_, .f32⟩
  | .hbm, ⟨23, _⟩ => ⟨S2x16x256x256, .f32⟩
  | .hbm, ⟨24, _⟩ => ⟨S2x16x256x256, .f32⟩
  | .hbm, ⟨25, _⟩ => ⟨S1x1x256x256, .i1⟩
  | .hbm, ⟨26, _⟩ => ⟨S_, .f32⟩
  | .hbm, ⟨27, _⟩ => ⟨S_, .f32⟩
  | .hbm, ⟨28, _⟩ => ⟨S2x16x256x256, .i1⟩
  | .hbm, ⟨29, _⟩ => ⟨S2x16x256x256, .f32⟩
  | .hbm, ⟨30, _⟩ => ⟨S2x16x256x256, .f32⟩
  | .hbm, ⟨31, _⟩ => ⟨S_, .f32⟩
  | .hbm, ⟨32, _⟩ => ⟨S2x16x256, .f32⟩
  | .hbm, ⟨33, _⟩ => ⟨S2x16x256x1, .f32⟩
  | .hbm, ⟨34, _⟩ => ⟨S2x16x256x256, .f32⟩
  | .hbm, ⟨35, _⟩ => ⟨S2x16x256x256, .f32⟩
  | .hbm, ⟨36, _⟩ => ⟨S2x16x256x256, .f32⟩
  | .hbm, ⟨37, _⟩ => ⟨S_, .i1⟩
  | .hbm, ⟨38, _⟩ => ⟨S256, .i1⟩
  | .hbm, ⟨39, _⟩ => ⟨S1x1x256x1, .i1⟩
  | .hbm, ⟨40, _⟩ => ⟨S_, .f32⟩
  | .hbm, ⟨41, _⟩ => ⟨S2x16x256, .f32⟩
  | .hbm, ⟨42, _⟩ => ⟨S2x16x256x1, .f32⟩
  | .hbm, ⟨43, _⟩ => ⟨S_, .f32⟩
  | .hbm, ⟨44, _⟩ => ⟨S_, .f32⟩
  | .hbm, ⟨45, _⟩ => ⟨S2x16x256x1, .i1⟩
  | .hbm, ⟨46, _⟩ => ⟨S2x16x256x1, .f32⟩
  | .hbm, ⟨47, _⟩ => ⟨S2x16x256x1, .f32⟩
  | .hbm, ⟨48, _⟩ => ⟨S2x16x256x256, .f32⟩
  | .hbm, ⟨49, _⟩ => ⟨S2x16x256x256, .f32⟩
  | .hbm, ⟨50, _⟩ => ⟨S1x1x256x1, .i1⟩
  | .hbm, ⟨51, _⟩ => ⟨S_, .f32⟩
  | .hbm, ⟨52, _⟩ => ⟨S_, .f32⟩
  | .hbm, ⟨53, _⟩ => ⟨S2x16x256x256, .i1⟩
  | .hbm, ⟨54, _⟩ => ⟨S2x16x256x256, .f32⟩
  | .hbm, ⟨55, _⟩ => ⟨S2x16x256x256, .f32⟩
  | .hbm, ⟨56, _⟩ => ⟨S2x16x64x256, .f32⟩
  | .hbm, ⟨57, _⟩ => ⟨S2x256x16x64, .f32⟩
  | .hbm, ⟨58, _⟩ => ⟨S2x256x1024, .f32⟩
  | .hbm, ⟨59, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Proof.KLayout.lean ====
/-
# The kernel's buffers, cut as its transfers cut them

Every device holds four scratch buffers beside the staging buffers of its launch: the bf16 copy of its partial result,
the three slots the partial rows of its peers land in, the bf16 copy of its reduced rows, and the three slots the
reduced rows of its peers land in. This module names the peers, the views the transfers go through and the contents
that land, and cuts the buffers along those views.
-/
module

public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.Launch
public import Idealize.ShloMosaic.Lib.Rounds
public import Idealize.ShloMosaic.Lib.Ring
public import Idealize.ShloMosaic.Lib.ValueLayout
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_sub_blocks)
open Idealize.ShloMosaic.ValueIdx (ix3 ix4)

variable {F : FTy → Type} [FloatOps F]

/-- The duties of a cell: three on a barrier cell, the first of them alone on a transfer's cell. -/
abbrev UB : Type := URounds (GSem nD τ sig) (Fin 3)
/-- The ghost state: the launch's own, and the rounds of the kernel's cells. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The peers -/

set_option backward.proofsInPublic true in
/-- Device `c`'s peer number `i`: the device `i + 1` steps on. Its transfers number `i` go there, and the peer writes
    slot number `i` of device `c`. -/
def peer (c : Dev nD) (i : Fin 3) : Dev nD := ⟨(c.val + i.val + 1) % 4, Nat.mod_lt _ (by decide)⟩

/-- Going `i + 1` steps on and then the rest of the way round comes back. -/
theorem peer_rev (c : Dev nD) (i : Fin 3) : peer (peer c i) i.rev = c := by revert c i; decide
/-- The same the other way round. -/
theorem peer_rev' (c : Dev nD) (i : Fin 3) : peer (peer c i.rev) i = c := by revert c i; decide

/-- The device that the body's first signal goes to is the device's first peer; -/
theorem dev1_eq (c : Dev nD) : (⟨k0_dev1 c, k0_dev1_lt c⟩ : Dev nD) = peer c 0 := by revert c; decide
/-- the second signal goes to the second peer, -/
theorem dev2_eq (c : Dev nD) : (⟨k0_dev2 c, k0_dev2_lt c⟩ : Dev nD) = peer c 1 := by revert c; decide
/-- and the third to the third. -/
theorem dev3_eq (c : Dev nD) : (⟨k0_dev3 c, k0_dev3_lt c⟩ : Dev nD) = peer c 2 := by revert c; decide
/-- The first transfer of partial rows goes to the first peer, -/
theorem dev4_eq (c : Dev nD) : (⟨k0_dev4 c, k0_dev4_lt c⟩ : Dev nD) = peer c 0 := by revert c; decide
/-- the second to the second, -/
theorem dev5_eq (c : Dev nD) : (⟨k0_dev5 c, k0_dev5_lt c⟩ : Dev nD) = peer c 1 := by revert c; decide
/-- and the third to the third. -/
theorem dev6_eq (c : Dev nD) : (⟨k0_dev6 c, k0_dev6_lt c⟩ : Dev nD) = peer c 2 := by revert c; decide
/-- The first transfer of reduced rows goes to the first peer, -/
theorem dev7_eq (c : Dev nD) : (⟨k0_dev7 c, k0_dev7_lt c⟩ : Dev nD) = peer c 0 := by revert c; decide
/-- the second to the second, -/
theorem dev8_eq (c : Dev nD) : (⟨k0_dev8 c, k0_dev8_lt c⟩ : Dev nD) = peer c 1 := by revert c; decide
/-- and the third to the third. -/
theorem dev9_eq (c : Dev nD) : (⟨k0_dev9 c, k0_dev9_lt c⟩ : Dev nD) = peer c 2 := by revert c; decide

/-- The pairs (device, peer number), matched with the same pairs seen from the peer. -/
def swap : Dev nD × Fin 3 ≃ Dev nD × Fin 3 :=
  ⟨fun p => (peer p.1 p.2, p.2.rev), fun p => (peer p.1 p.2, p.2.rev),
    fun p => Prod.ext (peer_rev p.1 p.2) (Fin.rev_rev p.2), fun p => Prod.ext (peer_rev p.1 p.2) (Fin.rev_rev p.2)⟩

/-! ## The memrefs -/

/-- The bf16 copy of a device's partial result. -/
abbrev partM : Memref sig .tc .vmem S2x256x512 .bf16 := Memref.whole cc0_scratch0
/-- The slots its peers' partial rows land in. -/
abbrev rsM : Memref sig .tc .vmem S3x2x64x512 .bf16 := Memref.whole cc0_scratch1
/-- The bf16 copy of its reduced rows. -/
abbrev redM : Memref sig .tc .vmem S2x64x512 .bf16 := Memref.whole cc0_scratch2
/-- The slots its peers' reduced rows land in. -/
abbrev agM : Memref sig .tc .vmem S3x2x64x512 .bf16 := Memref.whole cc0_scratch3

/-- A slot lies inside its buffer. -/
theorem inbSlot (j : Fin 3) : ∀ a, (![j.val, 0, 0, 0] : Fin 4 → Nat) a + S1x2x64x512.size a ≤ S3x2x64x512.size a := by
  revert j; decide

/-- Slot `j` of the buffer a device's peers write their partial rows to. -/
abbrev rsSlot (j : Fin 3) : Memref sig .tc .vmem S2x64x512 .bf16 :=
  (rsM.slice (Rect.unit (s := S3x2x64x512) ![j.val, 0, 0, 0] S1x2x64x512.size (inbSlot j)) (fun _ => rfl)).squeeze S2x64x512 squeezes_S1x2x64x512_S2x64x512
/-- Slot `j` of the buffer a device's peers write their reduced rows to. -/
abbrev agSlot (j : Fin 3) : Memref sig .tc .vmem S2x64x512 .bf16 :=
  (agM.slice (Rect.unit (s := S3x2x64x512) ![j.val, 0, 0, 0] S1x2x64x512.size (inbSlot j)) (fun _ => rfl)).squeeze S2x64x512 squeezes_S1x2x64x512_S2x64x512
/-- The rows of a device's partial result that its peer number `i` reduces. -/
abbrev slab (c : Dev nD) (i : Fin 3) : Memref sig .tc .vmem S2x64x512 .bf16 :=
  partM.slice (Rect.unit (s := S2x256x512) (k0_off1 c (BitVec.ofNat 32 (1 + i.val))) S2x64x512.size (k0_off1_inb c i)) (fun _ => rfl)

/-! ## The element sets -/

/-- A multi-index lies in slot `j` exactly when its leading coordinate is `j`. -/
theorem mem_rsSlot (j : Fin 3) (x : S3x2x64x512.Idx) : x ∈ (rsSlot j).view.set ↔ (x 0 : Nat) = j.val := by
  rw [show (rsSlot j).view.set = (Rect.unit (s := S3x2x64x512) ![j.val, 0, 0, 0] S1x2x64x512.size (inbSlot j)).set from
    (View.set_reshape _ _).trans (View.set_slice_whole cc0_scratch1 _), Rect.mem_set_unit]
  refine ⟨fun h => ?_, fun h a => ?_⟩
  · have := h 0; simp only [S1x2x64x512, Matrix.cons_val_zero] at this; omega
  · have := (x a).isLt
    fin_cases a <;> simp [S1x2x64x512, S3x2x64x512] at this ⊢ <;> omega
/-- The same for the slots of reduced rows. -/
theorem mem_agSlot (j : Fin 3) (x : S3x2x64x512.Idx) : x ∈ (agSlot j).view.set ↔ (x 0 : Nat) = j.val := by
  rw [show (agSlot j).view.set = (Rect.unit (s := S3x2x64x512) ![j.val, 0, 0, 0] S1x2x64x512.size (inbSlot j)).set from
    (View.set_reshape _ _).trans (View.set_slice_whole cc0_scratch3 _), Rect.mem_set_unit]
  refine ⟨fun h => ?_, fun h a => ?_⟩
  · have := h 0; simp only [S1x2x64x512, Matrix.cons_val_zero] at this; omega
  · have := (x a).isLt
    fin_cases a <;> simp [S1x2x64x512, S3x2x64x512] at this ⊢ <;> omega
/-- A multi-index lies in the rows peer `i` reduces exactly when its row does. -/
theorem mem_slab (c : Dev nD) (i : Fin 3) (x : S2x256x512.Idx) : x ∈ (slab c i).view.set ↔ (x 1 : Nat) / 64 = (peer c i).val := by
  rw [show (slab c i).view.set = (Rect.unit (s := S2x256x512) (k0_off1 c (BitVec.ofNat 32 (1 + i.val))) S2x64x512.size (k0_off1_inb c i)).set from
    View.set_slice_whole cc0_scratch0 _, Rect.mem_set_unit, k0_off1_eq c i]
  have hp : (peer c i).val = (c.val + i.val + 1) % 4 := rfl
  rw [hp]
  refine ⟨fun h => ?_, fun h a => ?_⟩
  · have := h 1; simp only [S2x64x512, Matrix.cons_val_one, Matrix.cons_val_zero] at this; omega
  · have := (x a).isLt
    fin_cases a <;> simp [S2x64x512, S2x256x512] at this h ⊢ <;> omega

/-- Two slots have no element in common, and every element lies in one. -/
theorem rsSlot_disjoint (j j' : Fin 3) (h : j ≠ j') : Disjoint (rsSlot j).view.set (rsSlot j').view.set :=
  Finset.disjoint_left.mpr fun x h1 h2 => h (Fin.ext (((mem_rsSlot j x).mp h1).symm.trans ((mem_rsSlot j' x).mp h2)))
/-- Every element of the buffer lies in a slot. -/
theorem rsSlot_cover : (Finset.univ.biUnion (β := S3x2x64x512.Idx) fun j : Fin 3 => (rsSlot j).view.set) = Finset.univ :=
  Finset.eq_univ_iff_forall.mpr fun x => Finset.mem_biUnion.mpr ⟨x 0, Finset.mem_univ _, (mem_rsSlot _ x).mpr rfl⟩
/-- A buffer of three slots held whole is its slots held one by one. -/
theorem rs_slots (c : Dev nD) (q : PosShare TreeShare) (f : Buf (Elt F) ((c : Thread nD τ).loc cc0_scratch1)) :
    ((c : Thread nD τ).loc cc0_scratch1 ↦{q} f : sProp 𝕄)
      = bigSep Finset.univ fun j : Fin 3 => (rsSlot j).view.loc (c : Thread nD τ) ↦[(rsSlot j).view.set]{q} f :=
  pointsTo_blocks (ℓ := (c : Thread nD τ).loc cc0_scratch1) (fun j : Fin 3 => ((rsSlot j).view.set : Finset S3x2x64x512.Idx))
    rsSlot_disjoint rsSlot_cover f
/-- Two slots of reduced rows have no element in common, -/
theorem agSlot_disjoint (j j' : Fin 3) (h : j ≠ j') : Disjoint (agSlot j).view.set (agSlot j').view.set :=
  Finset.disjoint_left.mpr fun x h1 h2 => h (Fin.ext (((mem_agSlot j x).mp h1).symm.trans ((mem_agSlot j' x).mp h2)))
/-- and every element of their buffer lies in one. -/
theorem agSlot_cover : (Finset.univ.biUnion (β := S3x2x64x512.Idx) fun j : Fin 3 => (agSlot j).view.set) = Finset.univ :=
  Finset.eq_univ_iff_forall.mpr fun x => Finset.mem_biUnion.mpr ⟨x 0, Finset.mem_univ _, (mem_agSlot _ x).mpr rfl⟩
/-- The same for the buffer of reduced rows. -/
theorem ag_slots (c : Dev nD) (q : PosShare TreeShare) (f : Buf (Elt F) ((c : Thread nD τ).loc cc0_scratch3)) :
    ((c : Thread nD τ).loc cc0_scratch3 ↦{q} f : sProp 𝕄)
      = bigSep Finset.univ fun j : Fin 3 => (agSlot j).view.loc (c : Thread nD τ) ↦[(agSlot j).view.set]{q} f :=
  pointsTo_blocks (ℓ := (c : Thread nD τ).loc cc0_scratch3) (fun j : Fin 3 => ((agSlot j).view.set : Finset S3x2x64x512.Idx))
    agSlot_disjoint agSlot_cover f

/-- The elements of the partial result that a device's transfers do not read: its own rows. -/
abbrev ownSet (c : Dev nD) : Finset S2x256x512.Idx := Finset.univ \ Finset.univ.biUnion fun i : Fin 3 => (slab c i).view.set

/-- Two different peers are two devices. -/
theorem peer_ne : ∀ (c : Dev nD) (j j' : Fin 3), (peer c j).val = (peer c j').val → j = j' := by decide
/-- The rows of two different peers have no element in common. -/
theorem slab_disjoint (c : Dev nD) (j j' : Fin 3) (h : j ≠ j') : Disjoint (slab c j).view.set (slab c j').view.set :=
  Finset.disjoint_left.mpr fun x h1 h2 => h (peer_ne c j j' (((mem_slab c j x).mp h1).symm.trans ((mem_slab c j' x).mp h2)))

/-- The partial result held whole is the rows each peer reduces, and the device's own. -/
theorem part_slabs (c : Dev nD) (q : PosShare TreeShare) (f : Buf (Elt F) ((c : Thread nD τ).loc cc0_scratch0)) :
    ((c : Thread nD τ).loc cc0_scratch0 ↦{q} f : sProp 𝕄)
      ⊣⊢ iprop((bigSep Finset.univ fun i : Fin 3 => (slab c i).view.loc (c : Thread nD τ) ↦[(slab c i).view.set]{q} f)
          ∗ (c : Thread nD τ).loc cc0_scratch0 ↦[ownSet c]{q} f) := by
  have h := pointsTo_sub_blocks (U := UU) (Name := ℕ) (Lvl := ℕ) (Ix := Unit) (ℓ := (c : Thread nD τ).loc cc0_scratch0) (fun i : Fin 3 => ((slab c i).view.set : Finset S2x256x512.Idx))
    (slab_disjoint c) _ rfl (q := q) f
  refine (pointsTo_split_subset (Finset.subset_univ (Finset.univ.biUnion (β := S2x256x512.Idx) fun i : Fin 3 => (slab c i).view.set))).trans ?_
  rw [h]

/-! ## What lands -/

set_option backward.proofsInPublic true in
/-- Row `r` of device `c`'s rows, in the whole result. -/
def rowOf (c : Dev nD) (r : Fin 64) : Fin 256 := ⟨64 * c.val + r.val, by have := c.isLt; have := r.isLt; simp only [nD] at *; omega⟩

/-- The contents of the slots partial rows land in: slot `j` holds device `c`'s rows of what peer `j` holds. -/
def landR (p : Dev nD → (cc0_scratch0 : Ref sig .tc).ty.Contents (Elt F)) (c : Dev nD) : (cc0_scratch1 : Ref sig .tc).ty.Contents (Elt F) :=
  fun (x : S3x2x64x512.Idx) => p (peer c (x 0)) (ix3 (x 1) (rowOf c (x 2)) (x 3) : S2x256x512.Idx)
/-- The contents of the slots reduced rows land in: slot `j` holds what peer `j` holds. -/
def landA (p : Dev nD → (cc0_scratch2 : Ref sig .tc).ty.Contents (Elt F)) (c : Dev nD) : (cc0_scratch3 : Ref sig .tc).ty.Contents (Elt F) :=
  fun (x : S3x2x64x512.Idx) => p (peer c (x 0)) (ix3 (x 1) (x 2) (x 3) : S2x64x512.Idx)

/-- Where a slot's multi-index sits in the buffer. -/
theorem emb_rsSlot (j : Fin 3) (y : S2x64x512.Idx) : (rsSlot j).view.emb y = (ix4 j (y 0) (y 1) (y 2) : S3x2x64x512.Idx) := by
  show (Rect.unit (s := S3x2x64x512) ![j.val, 0, 0, 0] S1x2x64x512.size (inbSlot j)).emb (Shape.reshapeEquiv _ y) = _
  rw [show (Shape.reshapeEquiv squeezes_S1x2x64x512_S2x64x512.numel_eq y : S1x2x64x512.Idx) = Fin.cons ⟨0, Nat.one_pos⟩ y from
    Shape.reshapeEquiv_cons_one (d := ![2, 64, 512]) _ y]
  funext a
  apply Fin.ext
  rw [Rect.emb_apply]
  fin_cases a <;> simp [ix4] <;> rfl
/-- The same for the slots of reduced rows. -/
theorem emb_agSlot (j : Fin 3) (y : S2x64x512.Idx) : (agSlot j).view.emb y = (ix4 j (y 0) (y 1) (y 2) : S3x2x64x512.Idx) := emb_rsSlot j y
/-- Where a multi-index of the rows that a peer reduces sits in the partial result. -/
theorem emb_slab (c : Dev nD) (i : Fin 3) (y : S2x64x512.Idx) :
    (slab c i).view.emb y = (ix3 (y 0) (rowOf (peer c i) (y 1)) (y 2) : S2x256x512.Idx) := by
  show (Rect.unit (s := S2x256x512) (k0_off1 c (BitVec.ofNat 32 (1 + i.val))) S2x64x512.size (k0_off1_inb c i)).emb y = _
  funext a
  apply Fin.ext
  rw [Rect.emb_apply, Rect.off_unit, Rect.stride_unit, congrFun (k0_off1_eq c i) a]
  fin_cases a <;> simp [ix3, rowOf, peer]

/-- A device's rows, copied onto their slot on the peer that reduces them. -/
theorem land_rs (p : Dev nD → (cc0_scratch0 : Ref sig .tc).ty.Contents (Elt F)) (c : Dev nD) (i : Fin 3)
    (fd : (cc0_scratch1 : Ref sig .tc).ty.Contents (Elt F)) :
    ∀ x ∈ (rsSlot i.rev).view.set,
      (rsSlot i.rev).view.write (Elt F) fd ((slab c i).view.read (Elt F) (p c)) Finset.univ x = landR p (peer c i) x := by
  intro x hx
  obtain ⟨y, -, rfl⟩ := Finset.mem_map.mp hx
  rw [View.write_emb_of_mem _ _ (Finset.mem_univ _), View.read_apply, emb_slab, emb_rsSlot]
  show p c _ = p (peer (peer c i) i.rev) _
  rw [peer_rev]
/-- A device's reduced rows, copied onto their slot on a peer. -/
theorem land_ag (p : Dev nD → (cc0_scratch2 : Ref sig .tc).ty.Contents (Elt F)) (c : Dev nD) (i : Fin 3)
    (fd : (cc0_scratch3 : Ref sig .tc).ty.Contents (Elt F)) :
    ∀ x ∈ (agSlot i.rev).view.set,
      (agSlot i.rev).view.write (Elt F) fd (redM.view.read (Elt F) (p c)) Finset.univ x = landA p (peer c i) x := by
  intro x hx
  obtain ⟨y, -, rfl⟩ := Finset.mem_map.mp hx
  rw [View.write_emb_of_mem _ _ (Finset.mem_univ _), View.read_apply, emb_agSlot]
  show p c y = p (peer (peer c i) i.rev) (ix3 (y 0) (y 1) (y 2))
  rw [peer_rev]
  exact congrArg (p c) (ValueIdx.eq_ix3 y)

end Cert.KernelIdeal.Ring
-- ==== Proof.KProto.lean ====
/-
# The protocol of the devices

What each device's semaphores carry. A device raises the barrier of each of its three peers once and hands over, with
the raise, the two slots that peer is to write. Each of its six transfers then raises a semaphore of its own when the
source is free again, and one of the target's when the rows have landed. Every cell has one round. The contents that
travel are named once for all devices, from the contents of the staging buffers.
-/
module

public import proofs.«01_k».proof.Proof.KLayout
public import proofs.«01_k».proof.Proof.Gen.KernelIdeal.Skeleton
public import Idealize.ShloMosaic.Lib.Ring.Trips

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F]

local notation "𝕄" => MT nD τ sig Unit (Elt F) ℕ UU ℕ

/-! ## The contents -/

/-- What one device's staging buffers hold: its operands. -/
structure Ins (F : FTy → Type) where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

abbrev xM : Memref sig .tc .vmem S2x256x512 .bf16 := Memref.whole cc0_stg0_0
abbrev wqM : Memref sig .tc .vmem S512x256 .bf16 := Memref.whole cc0_stg1_0
abbrev kM : Memref sig .tc .vmem S2x4x256x64 .bf16 := Memref.whole cc0_stg2_0
abbrev vM : Memref sig .tc .vmem S2x4x256x64 .bf16 := Memref.whole cc0_stg3_0
abbrev woM : Memref sig .tc .vmem S256x512 .bf16 := Memref.whole cc0_stg4_0
abbrev outM : Memref sig .tc .vmem S2x256x512 .f32 := Memref.whole cc0_stg5_0

/-- The keys a device reads at batch and head `o`. -/
abbrev ldK (I : Ins F) (o : Fin 4 → Nat) (h : ∀ a, o a + S1x1x256x64.size a ≤ S2x4x256x64.size a) : Vec F S1x1x256x64 .bf16 :=
  kM.view.readAt (Elt F) (Rect.unit (s := S2x4x256x64) o S1x1x256x64.size h).toLoadRect I.k
/-- The values it reads there. -/
abbrev ldV (I : Ins F) (o : Fin 4 → Nat) (h : ∀ a, o a + S1x1x256x64.size a ≤ S2x4x256x64.size a) : Vec F S1x1x256x64 .bf16 :=
  vM.view.readAt (Elt F) (Rect.unit (s := S2x4x256x64) o S1x1x256x64.size h).toLoadRect I.v

/-- The queries of the device's heads: the token rows times its columns of the query weights. -/
def qOf (I : Ins F) : FVec F S512x256 .bf16 :=
  k0_pay2 (xM.view.readAt (Elt F) (Rect.unit (s := S2x256x512) ![0, 0, 0] S2x256x512.size inb_S2x256x512_S2x256x512_0_0_0).toLoadRect I.x)
    (wqM.view.readAt (Elt F) (Rect.unit (s := S512x256) ![0, 0] S512x256.size inb_S512x256_S512x256_0_0).toLoadRect I.wq)

/-- The attention of the first batch's heads, side by side. -/
def att0 (I : Ins F) : FVec F S256x256 .bf16 :=
  k0_pay11 (F := F) k0_pay1
    (k0_pay3 k0_pay1 (qOf I) (ldK I ![0, 0, 0, 0] inb_S2x4x256x64_S1x1x256x64_0_0_0_0) (ldV I ![0, 0, 0, 0] inb_S2x4x256x64_S1x1x256x64_0_0_0_0))
    (k0_pay7 (k0_pay4 (ldV I ![0, 1, 0, 0] inb_S2x4x256x64_S1x1x256x64_0_1_0_0))
      (k0_pay5 k0_pay1 (qOf I) (ldK I ![0, 1, 0, 0] inb_S2x4x256x64_S1x1x256x64_0_1_0_0))
      (k0_pay6 k0_pay1 (qOf I) (ldK I ![0, 1, 0, 0] inb_S2x4x256x64_S1x1x256x64_0_1_0_0)))
    (k0_pay8 k0_pay1 (qOf I) (ldK I ![0, 2, 0, 0] inb_S2x4x256x64_S1x1x256x64_0_2_0_0) (ldV I ![0, 2, 0, 0] inb_S2x4x256x64_S1x1x256x64_0_2_0_0))
    (k0_pay9 (qOf I)) (k0_pay10 (ldK I ![0, 3, 0, 0] inb_S2x4x256x64_S1x1x256x64_0_3_0_0))
    (ldV I ![0, 3, 0, 0] inb_S2x4x256x64_S1x1x256x64_0_3_0_0)

/-- A device's partial result: the attention of its heads times its rows of the output weights. -/
def partOf (I : Ins F) : FVec F S2x256x512 .f32 :=
  k0_pay18 (F := F) k0_pay1 (qOf I) (att0 I)
    (k0_pay13 (k0_pay12 k0_pay1 (qOf I) (ldK I ![1, 0, 0, 0] inb_S2x4x256x64_S1x1x256x64_1_0_0_0) (ldV I ![1, 0, 0, 0] inb_S2x4x256x64_S1x1x256x64_1_0_0_0)))
    (k0_pay14 k0_pay1 (qOf I) (ldK I ![1, 1, 0, 0] inb_S2x4x256x64_S1x1x256x64_1_1_0_0) (ldV I ![1, 1, 0, 0] inb_S2x4x256x64_S1x1x256x64_1_1_0_0))
    (k0_pay15 (ldV I ![1, 2, 0, 0] inb_S2x4x256x64_S1x1x256x64_1_2_0_0))
    (k0_pay16 k0_pay1 (qOf I) (ldK I ![1, 2, 0, 0] inb_S2x4x256x64_S1x1x256x64_1_2_0_0))
    (k0_pay17 k0_pay1 (qOf I) (ldK I ![1, 2, 0, 0] inb_S2x4x256x64_S1x1x256x64_1_2_0_0))
    (ldK I ![1, 3, 0, 0] inb_S2x4x256x64_S1x1x256x64_1_3_0_0) (ldV I ![1, 3, 0, 0] inb_S2x4x256x64_S1x1x256x64_1_3_0_0)
    (woM.view.readAt (Elt F) (Rect.unit (s := S256x512) ![0, 0] S256x512.size inb_S256x512_S256x512_0_0).toLoadRect I.wo)

/-- Its bf16 copy, which the transfers read. -/
def pbuf (I : Ins F) : FVec F S2x256x512 .bf16 := k0_pay19 (partOf I)

section All

variable (A : Dev nD → Ins F)

/-- The contents of the slots partial rows land in. -/
abbrev rsAll (c : Dev nD) : (cc0_scratch1 : Ref sig .tc).ty.Contents (Elt F) := landR (fun d => pbuf (A d)) c

/-- Slot `j` of a three-slot buffer, as the kernel reads it. -/
abbrev ldR (j : Fin 3) (f : (cc0_scratch1 : Ref sig .tc).ty.Contents (Elt F)) : Vec F S1x2x64x512 .bf16 :=
  rsM.view.readAt (Elt F) (Rect.unit (s := S3x2x64x512) ![j.val, 0, 0, 0] S1x2x64x512.size (inbSlot j)).toLoadRect f
abbrev ldA (j : Fin 3) (f : (cc0_scratch3 : Ref sig .tc).ty.Contents (Elt F)) : Vec F S1x2x64x512 .bf16 :=
  agM.view.readAt (Elt F) (Rect.unit (s := S3x2x64x512) ![j.val, 0, 0, 0] S1x2x64x512.size (inbSlot j)).toLoadRect f

/-- A device's reduced rows: its own of its partial result, and its peers'. -/
def accOf (c : Dev nD) : FVec F S2x64x512 .f32 :=
  k0_pay22 (k0_pay20 (outM.view.readAt (Elt F) (Rect.unit (s := S2x256x512) (k0_off2 c) S2x64x512.size (k0_off2_inb c)).toLoadRect (partOf (A c))))
    (k0_pay21 (ldR 0 (rsAll A c))) (ldR 2 (rsAll A c)) (ldR 1 (rsAll A c))

/-- Their bf16 copy, which the transfers read. -/
def redOf (c : Dev nD) : FVec F S2x64x512 .bf16 := k0_pay23 (accOf A c)

/-- The contents of the slots reduced rows land in. -/
abbrev agAll (c : Dev nD) : (cc0_scratch3 : Ref sig .tc).ty.Contents (Elt F) := landA (redOf A) c

/-- The result with the device's own rows written. -/
def out1 (c : Dev nD) : (cc0_stg5_0 : Ref sig .tc).ty.Contents (Elt F) :=
  (outM.access (Rect.unit (s := S2x256x512) (k0_off2 c) S2x64x512.size (k0_off2_inb c))).write (Elt F) (partOf (A c)) (accOf A c) Finset.univ
/-- The result as the kernel leaves it: the rows of its peers written too. -/
def outOf (c : Dev nD) : (cc0_stg5_0 : Ref sig .tc).ty.Contents (Elt F) :=
  (outM.access (Rect.unit (s := S2x256x512) (k0_off3 c 2#32) S2x64x512.size (k0_off3_inb c 1))).write (Elt F)
    ((outM.access (Rect.unit (s := S2x256x512) (k0_off3 c 3#32) S2x64x512.size (k0_off3_inb c 2))).write (Elt F)
      ((outM.access (Rect.unit (s := S2x256x512) (k0_off3 c 1#32) S2x64x512.size (k0_off3_inb c 0))).write (Elt F)
        (out1 A c) (k0_pay24 (ldA 0 (agAll A c))) Finset.univ)
      (k0_pay25 (ldA 2 (agAll A c))) Finset.univ)
    (k0_pay26 (ldA 1 (agAll A c))) Finset.univ

end All

/-! ## The cells -/

/-- The barrier semaphore, one per device. -/
abbrev barS : Sem sig := barrier0
/-- The transfers' semaphores: family 0 is raised when a transfer of partial rows has left, 1 when one has landed,
    2 and 3 likewise for the reduced rows. -/
def xsem (a : Fin 4) (i : Fin 3) : DmaSem sig := (⟨6 + 3 * a.val + i.val, by have := a.isLt; have := i.isLt; omega⟩ : Fin 18)

/-- Device `c`'s barrier. -/
abbrev barCell (c : Dev nD) : GSem nD τ sig := ((c : Thread nD τ), .reg barS)
/-- Device `c`'s transfer semaphore number `i` of family `a`. -/
abbrev xcell (a : Fin 4) (c : Dev nD) (i : Fin 3) : GSem nD τ sig := ((c : Thread nD τ), .dma (xsem a i))

/-- A transfer semaphore's family and number, back from its index. -/
def famOf (q : DmaSem sig) : Fin 4 := ⟨(q.val - 6) / 3, by have h : q.val < 18 := q.isLt; omega⟩
/-- And its number. -/
def idxOf (q : DmaSem sig) : Fin 3 := ⟨q.val % 3, Nat.mod_lt _ (by omega)⟩

/-- The family is read back, -/
theorem famOf_xsem : ∀ a i, famOf (xsem a i) = a := by decide
/-- and so is the number. -/
theorem idxOf_xsem : ∀ a i, idxOf (xsem a i) = i := by decide
/-- The transfers' semaphores come after the windows' six, -/
theorem xsem_ge : ∀ a i, 6 ≤ (xsem a i).val := by decide
/-- and no two are the same. -/
theorem xsem_inj : ∀ a i b j, xsem a i = xsem b j → a = b ∧ i = j := by decide

/-- What one transfer raises its semaphores by. -/
def N : ℕ := redM.view.dmaCredit
/-- A transfer raises its semaphores by something. -/
theorem N_pos : 0 < N := View.dmaCredit_pos _ (by decide)

/-! ## The schedule -/

section Sched

variable (A : Dev nD → Ins F)

/-- Slot `j` of device `c`, for partial rows, at contents not chosen; and the same for reduced rows. -/
def rsHole (c : Dev nD) (j : Fin 3) : sProp 𝕄 :=
  iprop(∃ f : Buf (Elt F) ((c : Thread nD τ).loc cc0_scratch1), (rsSlot j).view.loc (c : Thread nD τ) ↦[(rsSlot j).view.set]{fullShare} f)
def agHole (c : Dev nD) (j : Fin 3) : sProp 𝕄 :=
  iprop(∃ f : Buf (Elt F) ((c : Thread nD τ).loc cc0_scratch3), (agSlot j).view.loc (c : Thread nD τ) ↦[(agSlot j).view.set]{fullShare} f)

/-- Raised with device `t`'s barrier by its peer `j`: the peer's two slots that device `t` is to write, and that the
    semaphores raised on landing there have reached their one round. -/
def barPay (t : Dev nD) (j : Fin 3) : sProp 𝕄 :=
  iprop(rsHole (peer t j) j.rev ∗ agHole (peer t j) j.rev
    ∗ reached ER (xcell 1 (peer t j) j.rev) 0 ∗ reached ER (xcell 3 (peer t j) j.rev) 0)

/-- The rows peer `i` reduces, of device `c`'s partial result. -/
def rsSrc (c : Dev nD) (i : Fin 3) : sProp 𝕄 :=
  ((slab c i).view.loc (c : Thread nD τ) ↦[(slab c i).view.set]{fullShare} pbuf (A c))
/-- Slot `j` of device `c`, with the partial rows of peer `j` landed. -/
def rsGot (c : Dev nD) (j : Fin 3) : sProp 𝕄 :=
  ((rsSlot j).view.loc (c : Thread nD τ) ↦[(rsSlot j).view.set]{fullShare} rsAll A c)
/-- Device `c`'s reduced rows, at the part of the share its transfer `i` reads them at. -/
def agSrc (c : Dev nD) (i : Fin 3) : sProp 𝕄 :=
  (redM.view.loc (c : Thread nD τ) ↦[redM.view.set]{shares3 fullShare i} redOf A c)
/-- Slot `j` of device `c`, with the reduced rows of peer `j` landed. -/
def agGot (c : Dev nD) (j : Fin 3) : sProp 𝕄 :=
  ((agSlot j).view.loc (c : Thread nD τ) ↦[(agSlot j).view.set]{fullShare} agAll A c)

/-- What a transfer's semaphore carries. -/
def xPay (a : Fin 4) (c : Dev nD) (i : Fin 3) : sProp 𝕄 :=
  match a with
  | 0 => rsSrc A c i
  | 1 => rsGot A c i
  | 2 => agSrc A c i
  | 3 => agGot A c i

/-- The duties of a cell: its peers' three on a barrier, one on a transfer's semaphore, none on another cell. -/
def dutiesOf (s : SemLoc sig) : Finset (Fin 3) :=
  match s with
  | .reg _ => Finset.univ
  | .dma q => if 6 ≤ q.val then {0} else ∅

/-- The rounds of every cell. -/
def sched : Rounds.Schedule (GSem nD τ sig) (Fin 3) 𝕄 where
  duties g r := if r = 0 ∧ g.1.2 = .tc then dutiesOf g.2 else ∅
  unitless _ := False
  amount g _ _ := match g.2 with
    | .reg _ => 1
    | .dma _ => N
  payload g _ d := match g.2 with
    | .reg _ => barPay g.1.1 d
    | .dma q => xPay A (famOf q) g.1.1 (idxOf q)
  amount_pos g _ _ _ := by
    rcases g with ⟨g, s⟩; cases s
    · exact Nat.one_pos
    · exact N_pos

instance rsHole_storable (c : Dev nD) (j : Fin 3) : BI.Storable (upEmb : UEmb _ 𝕄) (rsHole (F := F) c j) := by
  unfold rsHole; infer_instance
instance agHole_storable (c : Dev nD) (j : Fin 3) : BI.Storable (upEmb : UEmb _ 𝕄) (agHole (F := F) c j) := by
  unfold agHole; infer_instance
instance xPay_storable (a : Fin 4) (c : Dev nD) (i : Fin 3) : BI.Storable (upEmb : UEmb _ 𝕄) (xPay A a c i) := by
  unfold xPay rsSrc rsGot agSrc agGot
  split <;> infer_instance

instance sched_payload_storable (g : GSem nD τ sig) (r : ℕ) (d : Fin 3) :
    BI.Storable (upEmb : UEmb _ 𝕄) ((sched A).payload g r d) := by
  rcases g with ⟨g, s⟩
  cases s
  · show BI.Storable upEmb (barPay g.1 d)
    unfold barPay; infer_instance
  · show BI.Storable upEmb (xPay A _ g.1 _)
    infer_instance

/-- A barrier's round has three raises, -/
theorem duties_bar (c : Dev nD) : (sched A).duties (barCell c) 0 = Finset.univ := by
  dsimp only [sched]; exact if_pos ⟨rfl, rfl⟩
/-- a transfer semaphore's has one, -/
theorem duties_x (a : Fin 4) (c : Dev nD) (i : Fin 3) : (sched A).duties (xcell a c i) 0 = {0} := by
  dsimp only [sched]; rw [if_pos ⟨rfl, rfl⟩]; exact if_pos (xsem_ge a i)
/-- and there is no second round. -/
theorem duties_later (g : GSem nD τ sig) : ∀ r, 1 ≤ r → (sched A).duties g r = ∅ := fun r hr => by
  dsimp only [sched]; exact if_neg fun h => by omega
/-- Each peer's raise of a barrier is among them, -/
theorem mem_duties_bar (c : Dev nD) (d : Fin 3) : d ∈ (sched A).duties (barCell c) 0 := by rw [duties_bar]; exact Finset.mem_univ _
/-- and so is a transfer's. -/
theorem mem_duties_x (a : Fin 4) (c : Dev nD) (i : Fin 3) : (0 : Fin 3) ∈ (sched A).duties (xcell a c i) 0 := by
  rw [duties_x]; exact Finset.mem_singleton_self _

/-- A barrier is raised by one at a time, -/
theorem amount_bar (c : Dev nD) (d : Fin 3) : (sched A).amount (barCell c) 0 d = 1 := rfl
/-- a transfer semaphore by the transfer's amount. -/
theorem amount_x (a : Fin 4) (c : Dev nD) (i : Fin 3) (d : Fin 3) : (sched A).amount (xcell a c i) 0 d = N := rfl

/-- In all a barrier is raised by three, -/
theorem expect_bar (c : Dev nD) : (sched A).expect (barCell c) 0 = 3 := by
  unfold Schedule.expect Schedule.amountOf
  rw [duties_bar, Finset.sum_congr rfl fun d _ => amount_bar A c d]; rfl
/-- and a transfer semaphore by one transfer's amount. -/
theorem expect_x (a : Fin 4) (c : Dev nD) (i : Fin 3) : (sched A).expect (xcell a c i) 0 = N := by
  unfold Schedule.expect Schedule.amountOf; rw [duties_x, Finset.sum_singleton, amount_x]

/-- What a raise of a barrier hands over, -/
theorem payload_bar (c : Dev nD) (d : Fin 3) : (sched A).payload (barCell c) 0 d = barPay c d := rfl
/-- and what a transfer's end hands over. -/
theorem payload_x (a : Fin 4) (c : Dev nD) (i : Fin 3) (d : Fin 3) : (sched A).payload (xcell a c i) 0 d = xPay A a c i := by
  show xPay A (famOf (xsem a i)) c (idxOf (xsem a i)) = _
  rw [famOf_xsem, idxOf_xsem]

/-- What the wait at a barrier hands over: its three peers' slots. -/
theorem rest_bar (c : Dev nD) : bigSep ((sched A).duties (barCell c) 0 \ ∅) (fun d => (sched A).payload (barCell c) 0 d)
    = iprop(barPay c 0 ∗ barPay c 1 ∗ (barPay c 2 : sProp 𝕄)) := by
  rw [Finset.sdiff_empty, duties_bar, bigSep_univ_eq_bigSepL [0, 1, 2] (by decide) (by decide)]
  rw [bigSepL_cons_cons, bigSepL_cons_cons, bigSepL_singleton]
  rfl
/-- What the wait at a transfer semaphore hands over. -/
theorem rest_x (a : Fin 4) (c : Dev nD) (i : Fin 3) :
    bigSep ((sched A).duties (xcell a c i) 0 \ ∅) (fun d => (sched A).payload (xcell a c i) 0 d) = xPay A a c i := by
  rw [Finset.sdiff_empty, duties_x, bigSep_singleton, payload_x]

end Sched

/-! ## What a device owes, and the order of its waits -/

/-- The raise a device makes last but `n`: the last are the landings of the reduced rows, before them those of the
    partial rows, and first the barriers. -/
def debt (c : Dev nD) : ℕ → CellTallies nD τ sig Unit
  | 0 => tallyAt (xcell 3 (peer c 2) 0) () N
  | 1 => tallyAt (xcell 3 (peer c 1) 1) () N
  | 2 => tallyAt (xcell 3 (peer c 0) 2) () N
  | 3 => tallyAt (xcell 1 (peer c 2) 0) () N
  | 4 => tallyAt (xcell 1 (peer c 1) 1) () N
  | 5 => tallyAt (xcell 1 (peer c 0) 2) () N
  | 6 => tallyAt (barCell (peer c 2)) () 1
  | 7 => tallyAt (barCell (peer c 1)) () 1
  | _ => tallyAt (barCell (peer c 0)) () 1

/-- What a device owes with `n` raises to go. -/
def owe (c : Dev nD) : ℕ → CellTallies nD τ sig Unit
  | 0 => 0
  | n + 1 => owe c n + debt c n

/-- What it owes at launch. -/
abbrev O₀ (c : Dev nD) : CellTallies nD τ sig Unit := owe c 9

/-- The semaphores whose raises are tallied: those of the main core. -/
def L (g : GSem nD τ sig) : Finset Unit := if g.1.2 = .tc then {()} else ∅
/-- The order of the waits: a barrier before the landings of the partial rows, these before those of the reduced rows. -/
def lv (g : GSem nD τ sig) (_ : Unit) : ℕ :=
  match g.2 with
  | .reg _ => 1
  | .dma q => if famOf q = 1 then 2 else if famOf q = 3 then 3 else 0

/-- Only the main core's semaphores are tallied, -/
theorem L_of_ne (g : GSem nD τ sig) (h : g.1.2 ≠ .tc) : L g = ∅ := if_neg h
/-- and each of them is. -/
theorem L_tc (c : Dev nD) (sm : SemLoc sig) : L ((c : Thread nD τ), sm) = {()} := if_pos rfl
/-- The level of a barrier, -/
theorem lv_bar (c : Dev nD) : lv (barCell c) () = 1 := rfl
/-- and of a transfer semaphore. -/
theorem lv_x (a : Fin 4) (c : Dev nD) (i : Fin 3) : lv (xcell a c i) () = if a = 1 then 2 else if a = 3 then 3 else 0 := by
  show (if famOf (xsem a i) = 1 then 2 else if famOf (xsem a i) = 3 then 3 else 0) = _
  rw [famOf_xsem]

/-- A cell that some raise tallies is a device's, at least at the level of that raise. -/
theorem tally_pos {g g' : GSem nD τ sig} {n : ℕ} {u : Unit} (h : 0 < (tallyAt g' () n : CellTallies nD τ sig Unit) g u) : g = g' := by
  rw [tallyAt_apply] at h
  by_contra hne
  rw [if_neg (fun hh => hne hh.1)] at h
  exact Nat.lt_irrefl 0 h

/-- A raise that is owed is on a tallied semaphore, and its level grows with the phase. -/
theorem debt_cell (c : Dev nD) (n : ℕ) (g : GSem nD τ sig) (u : Unit) (h : 0 < debt c n g u) :
    () ∈ L g ∧ (if n < 3 then 3 else if n < 6 then 2 else 1) ≤ lv g u := by
  match n, h with
  | 0, h => rw [tally_pos h]; exact ⟨by rw [L_tc]; exact Finset.mem_singleton_self _, by rw [lv_x]; decide⟩
  | 1, h => rw [tally_pos h]; exact ⟨by rw [L_tc]; exact Finset.mem_singleton_self _, by rw [lv_x]; decide⟩
  | 2, h => rw [tally_pos h]; exact ⟨by rw [L_tc]; exact Finset.mem_singleton_self _, by rw [lv_x]; decide⟩
  | 3, h => rw [tally_pos h]; exact ⟨by rw [L_tc]; exact Finset.mem_singleton_self _, by rw [lv_x]; decide⟩
  | 4, h => rw [tally_pos h]; exact ⟨by rw [L_tc]; exact Finset.mem_singleton_self _, by rw [lv_x]; decide⟩
  | 5, h => rw [tally_pos h]; exact ⟨by rw [L_tc]; exact Finset.mem_singleton_self _, by rw [lv_x]; decide⟩
  | 6, h => rw [tally_pos h]; exact ⟨by rw [L_tc]; exact Finset.mem_singleton_self _, by rw [lv_bar]; decide⟩
  | 7, h => rw [tally_pos h]; exact ⟨by rw [L_tc]; exact Finset.mem_singleton_self _, by rw [lv_bar]; decide⟩
  | n + 8, h =>
    rw [tally_pos (g' := barCell (peer c 0)) h]
    exact ⟨by rw [L_tc]; exact Finset.mem_singleton_self _, by rw [lv_bar, if_neg (by omega), if_neg (by omega)]⟩

/-- Whatever is owed is owed by one of the raises to go. -/
theorem owe_cell (c : Dev nD) : ∀ (n : ℕ) (g : GSem nD τ sig) (u : Unit), 0 < owe c n g u → ∃ k < n, 0 < debt c k g u
  | 0, g, u, h => absurd h (Nat.lt_irrefl 0)
  | n + 1, g, u, h => by
    have h' : 0 < owe c n g u + debt c n g u := h
    rcases Nat.eq_zero_or_pos (debt c n g u) with h0 | h0
    · obtain ⟨k, hk, hd⟩ := owe_cell c n g u (by omega)
      exact ⟨k, by omega, hd⟩
    · exact ⟨n, by omega, h0⟩

/-- A device waits for its barrier owing the landings alone, -/
theorem mayWait_bar (c : Dev nD) : (levAts L lv : sProp 𝕄) ⊢ MayWait (c : Thread nD τ) (.reg barS) () (owe c 6) :=
  MayOwe.of_cut (L := L) (lev := lv) 1 (fun p hp => by rw [Finset.mem_singleton.mp hp, L_tc]; exact Finset.mem_singleton_self _)
    (fun g u hg => by obtain ⟨k, hk, hd⟩ := owe_cell c 6 g u hg; exact (debt_cell c k g u hd).1)
    (fun p hp => by rw [Finset.mem_singleton.mp hp]; exact le_of_eq (lv_bar c))
    (fun g u hg => by
      obtain ⟨k, hk, hd⟩ := owe_cell c 6 g u hg
      refine lt_of_lt_of_le ?_ (debt_cell c k g u hd).2
      split <;> decide)
/-- and for a landing of partial rows owing those of the reduced rows alone. -/
theorem mayWait_rs (c : Dev nD) (j : Fin 3) : (levAts L lv : sProp 𝕄) ⊢ MayWait (c : Thread nD τ) (.dma (xsem 1 j)) () (owe c 3) :=
  MayOwe.of_cut (L := L) (lev := lv) 2 (fun p hp => by rw [Finset.mem_singleton.mp hp, L_tc]; exact Finset.mem_singleton_self _)
    (fun g u hg => by obtain ⟨k, hk, hd⟩ := owe_cell c 3 g u hg; exact (debt_cell c k g u hd).1)
    (fun p hp => by rw [Finset.mem_singleton.mp hp]; exact le_of_eq (lv_x 1 c j))
    (fun g u hg => by
      obtain ⟨k, hk, hd⟩ := owe_cell c 3 g u hg
      refine lt_of_lt_of_le ?_ (debt_cell c k g u hd).2
      rw [if_pos hk]; decide)

end Cert.KernelIdeal.Ring
-- ==== Proof.KSteps.lean ====
/-
# The steps of a device that concern another

One lemma for each kind of step: the raise of a peer's barrier, the wait for the own barrier, the transfer of partial
rows, the transfer of reduced rows, and the wait for a transfer's semaphore. Each is stated at the head of a program.
-/
module

public import proofs.«01_k».proof.Proof.KProto

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F]

local notation "𝕄" => MT nD τ sig Unit (Elt F) ℕ UU ℕ

abbrev 𝒱₀ : Variants := Variants.none

/-- One summand of a separating product. -/
theorem take {I M : Type} [URA M] [Fintype I] [DecidableEq I] (Φ : I → sProp M) (i : I) : (bigSep Finset.univ Φ : sProp M) ⊢ Φ i :=
  bigSep_elim (Finset.mem_univ i)

/-! ## The invariants of all cells -/

section Invs

variable (A : Dev nD → Ins F) (K : GSem nD τ sig → ℕ)

/-- Every cell of the protocol is under its invariant, and every barrier's one round is open. -/
def invs : sProp 𝕄 :=
  iprop((bigSep Finset.univ fun c : Dev nD => cellInv ER (sched A) (K (barCell c)) (barCell c))
    ∗ (bigSep Finset.univ fun p : Fin 4 × Dev nD × Fin 3 => cellInv ER (sched A) (K (xcell p.1 p.2.1 p.2.2)) (xcell p.1 p.2.1 p.2.2))
    ∗ (bigSep Finset.univ fun c : Dev nD => reached ER (barCell c) 0))

instance invs_persistent : BI.Persistent (invs A K) := by unfold invs; infer_instance

/-- The invariant of one barrier, -/
theorem inv_bar (c : Dev nD) : invs A K ⊢ cellInv ER (sched A) (K (barCell c)) (barCell c) := by
  unfold invs
  iintro ⟨H, -, -⟩
  iapply (take (fun c : Dev nD => cellInv ER (sched A) (K (barCell c)) (barCell c)) c); iexact H
/-- of one transfer semaphore, -/
theorem inv_x (a : Fin 4) (c : Dev nD) (i : Fin 3) : invs A K ⊢ cellInv ER (sched A) (K (xcell a c i)) (xcell a c i) := by
  unfold invs
  iintro ⟨-, H, -⟩
  iapply (take (fun p : Fin 4 × Dev nD × Fin 3 => cellInv ER (sched A) (K (xcell p.1 p.2.1 p.2.2)) (xcell p.1 p.2.1 p.2.2)) (a, c, i)); iexact H
/-- and the open round of one barrier. -/
theorem reached_bar (c : Dev nD) : invs A K ⊢ reached ER (barCell c) 0 := by
  unfold invs
  iintro ⟨-, -, H⟩
  iapply (take (fun c : Dev nD => reached ER (barCell c) 0) c); iexact H

end Invs

section Steps

variable (A : Dev nD → Ins F) (K : GSem nD τ sig → ℕ) (c : Dev nD)

/-- The raise of peer `i`'s barrier: hands over the device's own slots number `i`. -/
theorem step_signal (i : Fin 3) (t : Dev nD) (ht : t = peer c i) (O₀ O : CellTallies nD τ sig Unit)
    (hO : O₀ = O + tallyAt (barCell (peer c i)) () 1) (W : Waits sig Unit)
    {α : Type} {k : PUnit → Prog (TpuEff nD τ sig (Elt F) Λ₀ .tc) α} {Q : α → sProp 𝕄} {n : ℤ} (hn : n = 1) {s : Sem sig} (hs : s = barS) :
    iprop(invs A K ∗ owes (c : Thread nD τ) O₀ W ∗ dutyTok ER (barCell (peer c i)) 0 i.rev
        ∗ rsHole c i ∗ agHole c i ∗ reached ER (xcell 1 c i) 0 ∗ reached ER (xcell 3 c i) 0)
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc t) s n) k) Q) := by
  subst ht hn hs
  iintro ⟨#HI, HO, Ht, Hr, Ha, #Hr1, #Hr3⟩ Hk
  iapply (Rounds.wp_signal 𝒱₀ ER (sched A) (c : Thread nD τ) none (dst := (peer c i : Thread nD τ)) (sem := barS) (r := 0)
      (d := i.rev) (κ := K (barCell (peer c i))) (mem_duties_bar A (peer c i) i.rev) (amount_bar A (peer c i) i.rev) () O hO)
    $$ [HO Ht Hr Ha]
  · isplitr; · iapply (inv_bar A K (peer c i)); iexact HI
    isplitl [HO]; · iexact HO
    isplitl [Ht]; · iexact Ht
    isplitl [Hr Ha]
    · rw [payload_bar]; unfold barPay; rw [peer_rev, Fin.rev_rev]
      isplitl [Hr]; · iexact Hr
      isplitl [Ha]; · iexact Ha
      isplitr; · iexact Hr1
      iexact Hr3
    · iapply (reached_bar A K (peer c i)); iexact HI
  iexact Hk

/-- The wait for the own barrier: every peer's slots for the device come with it. -/
theorem step_bar (W : Waits sig Unit) {α : Type} {k : PUnit → Prog (TpuEff nD τ sig (Elt F) Λ₀ .tc) α} {Q : α → sProp 𝕄} {n : ℤ} (hn : n = 3)
    {s : Sem sig} (hs : s = barS) :
    iprop(invs A K ∗ levAts L lv ∗ cred (tallyAt (barCell c) () 3) ∗ owes (c : Thread nD τ) (owe c 6) W ∗ atPos ER (barCell c) 0 ∅ 0)
      ⊢ iprop(((∃ W, owes (c : Thread nD τ) (owe c 6) W) ∗ atPos ER (barCell c) (0 + 1) ∅ 0 ∗ barPay c 0 ∗ barPay c 1 ∗ barPay c 2
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait s n) k) Q) := by
  subst hn hs
  iintro ⟨#HI, #Hlev, Hc, HO, Hat⟩ Hk
  iapply (Rounds.wp_wait_rest_token 𝒱₀ ER (sched A) (c : Thread nD τ) none (κ := K (barCell c))
      (wpE_semWait_eq 𝒱₀ (c : Thread nD τ) none Set.univ) (Set.mem_univ _) () (O := owe c 6) (W := W) (R := 0) (m := 0) (T := ∅)
      ((Nat.zero_add 3).trans (expect_bar A c).symm)) $$ [Hc HO Hat]
  · isplitr; · iapply (inv_bar A K c); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar A c)) $$ Hpay
  iapply Hk
  isplitl [HO]; · iexists _; iexact HO
  isplitl [Hat]; · iexact Hat
  iexact Hp

/-- The transfer of the rows peer `i` reduces, into the slot of the peer that the barrier handed over. -/
theorem step_rs (i : Fin 3) (t : Dev nD) (ht : t = peer c i) (O₀ O : CellTallies nD τ sig Unit)
    (hO : O₀ = O + tallyAt (xcell 1 (peer c i) i.rev) () N) (W : Waits sig Unit)
    {α : Type} {k : PUnit → Prog (TpuEff nD τ sig (Elt F) Λ₀ .tc) α} {Q : α → sProp 𝕄}
    {src dst : Memref sig .tc .vmem S2x64x512 .bf16} (hsrc : src = slab c i) (hdst : dst = rsSlot i.rev)
    {sS sR : DmaSem sig} (hS : sS = xsem 0 i) (hR : sR = xsem 1 i.rev)
    {h1 : src.view.WordExact} {h2 : dst.view.WordExact} {hsc : dst.view.ref.isScScratch = false}
    {h3 : DmaTarget.Typed .vmem (.dma sR) (.remote (Dev.tc t : Thread nD τ) dst (.dma sS) hsc)} :
    iprop(invs A K ∗ owes (c : Thread nD τ) O₀ W ∗ rsSrc A c i ∗ rsHole (peer c i) i.rev
        ∗ dutyTok ER (xcell 0 c i) 0 0 ∗ reached ER (xcell 0 c i) 0
        ∗ dutyTok ER (xcell 1 (peer c i) i.rev) 0 0 ∗ reached ER (xcell 1 (peer c i) i.rev) 0)
      ⊢ iprop((cred (tallyAt (xcell 0 c i) () N) ∗ owes (c : Thread nD τ) O W
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc t : Thread nD τ) dst (.dma sS) hsc) (.dma sR) h1 h2 h3) k) Q) := by
  subst ht hsrc hdst hS hR
  unfold rsSrc rsHole
  iintro ⟨#HI, HO, Hs, ⟨%fd, Hd⟩, Ht0, #Hr0, Ht1, #Hr1⟩ Hk
  iapply (Rounds.wp_send_pointsTo 𝒱₀ ER (sched A) (c : Thread nD τ) none (c' := (peer c i : Thread nD τ)) (src := slab c i)
      (dst := rsSlot i.rev) (sS := .dma (xsem 0 i)) (sem := .dma (xsem 1 i.rev)) (q := fullShare) (fs := pbuf (A c))
      (κ₁ := K (xcell 0 c i)) (κ₂ := K (xcell 1 (peer c i) i.rev)) (r₁ := 0) (r₂ := 0) (d₁ := 0) (d₂ := 0) (fd := fd)
      (mem_duties_x A 0 c i) (mem_duties_x A 1 (peer c i) i.rev) () () N rfl (amount_x A 0 c i 0) (amount_x A 1 (peer c i) i.rev 0)
      O hO (W := W) (by rw [payload_x]; exact BI.Entails.refl _)
      (by
        rw [payload_x]
        show _ ⊢ rsGot A (peer c i) i.rev
        unfold rsGot
        rw [pointsTo_congr (land_rs (fun d => pbuf (A d)) c i fd)])) $$ [Hs Hd HO Ht0 Ht1]
  · isplitr; · iapply (inv_x A K 0 c i); iexact HI
    isplitr; · iapply (inv_x A K 1 (peer c i) i.rev); iexact HI
    isplitl [Hs]; · iexact Hs
    isplitl [Hd]; · iexact Hd
    isplitl [HO]; · iexact HO
    isplitl [Ht0]; · iexact Ht0
    isplitr; · iexact Hr0
    isplitl [Ht1]; · iexact Ht1
    iexact Hr1
  iexact Hk

/-- The transfer of the device's reduced rows to peer `i`. -/
theorem step_ag (i : Fin 3) (t : Dev nD) (ht : t = peer c i) (O₀ O : CellTallies nD τ sig Unit)
    (hO : O₀ = O + tallyAt (xcell 3 (peer c i) i.rev) () N) (W : Waits sig Unit)
    {α : Type} {k : PUnit → Prog (TpuEff nD τ sig (Elt F) Λ₀ .tc) α} {Q : α → sProp 𝕄}
    {src dst : Memref sig .tc .vmem S2x64x512 .bf16} (hsrc : src = redM) (hdst : dst = agSlot i.rev)
    {sS sR : DmaSem sig} (hS : sS = xsem 2 i) (hR : sR = xsem 3 i.rev)
    {h1 : src.view.WordExact} {h2 : dst.view.WordExact} {hsc : dst.view.ref.isScScratch = false}
    {h3 : DmaTarget.Typed .vmem (.dma sR) (.remote (Dev.tc t : Thread nD τ) dst (.dma sS) hsc)} :
    iprop(invs A K ∗ owes (c : Thread nD τ) O₀ W ∗ agSrc A c i ∗ agHole (peer c i) i.rev
        ∗ dutyTok ER (xcell 2 c i) 0 0 ∗ reached ER (xcell 2 c i) 0
        ∗ dutyTok ER (xcell 3 (peer c i) i.rev) 0 0 ∗ reached ER (xcell 3 (peer c i) i.rev) 0)
      ⊢ iprop((cred (tallyAt (xcell 2 c i) () N) ∗ owes (c : Thread nD τ) O W
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc t : Thread nD τ) dst (.dma sS) hsc) (.dma sR) h1 h2 h3) k) Q) := by
  subst ht hsrc hdst hS hR
  unfold agSrc agHole
  iintro ⟨#HI, HO, Hs, ⟨%fd, Hd⟩, Ht0, #Hr0, Ht1, #Hr1⟩ Hk
  iapply (Rounds.wp_send_pointsTo 𝒱₀ ER (sched A) (c : Thread nD τ) none (c' := (peer c i : Thread nD τ)) (src := redM)
      (dst := agSlot i.rev) (sS := .dma (xsem 2 i)) (sem := .dma (xsem 3 i.rev)) (q := shares3 fullShare i) (fs := redOf A c)
      (κ₁ := K (xcell 2 c i)) (κ₂ := K (xcell 3 (peer c i) i.rev)) (r₁ := 0) (r₂ := 0) (d₁ := 0) (d₂ := 0) (fd := fd)
      (mem_duties_x A 2 c i) (mem_duties_x A 3 (peer c i) i.rev) () () N rfl (amount_x A 2 c i 0) (amount_x A 3 (peer c i) i.rev 0)
      O hO (W := W) (by rw [payload_x]; exact BI.Entails.refl _)
      (by
        rw [payload_x]
        show _ ⊢ agGot A (peer c i) i.rev
        unfold agGot
        rw [pointsTo_congr (land_ag (redOf A) c i fd)])) $$ [Hs Hd HO Ht0 Ht1]
  · isplitr; · iapply (inv_x A K 2 c i); iexact HI
    isplitr; · iapply (inv_x A K 3 (peer c i) i.rev); iexact HI
    isplitl [Hs]; · iexact Hs
    isplitl [Hd]; · iexact Hd
    isplitl [HO]; · iexact HO
    isplitl [Ht0]; · iexact Ht0
    isplitr; · iexact Hr0
    isplitl [Ht1]; · iexact Ht1
    iexact Hr1
  iexact Hk

/-- The wait for a transfer's semaphore: what the semaphore carries comes with it. -/
theorem step_wait (a : Fin 4) (i : Fin 3) (O : CellTallies nD τ sig Unit) (W : Waits sig Unit)
    (hmay : (levAts L lv : sProp 𝕄) ⊢ MayWait (c : Thread nD τ) (.dma (xsem a i)) () O)
    {α : Type} {k : PUnit → Prog (TpuEff nD τ sig (Elt F) Λ₀ .tc) α} {Q : α → sProp 𝕄}
    {src dst : Memref sig .tc .vmem S2x64x512 .bf16} {s : DmaSem sig} (hs : s = xsem a i)
    {h1 : src.view.WordExact} {h2 : dst.view.WordExact} (hN : dst.view.dmaCredit = N) :
    iprop(invs A K ∗ levAts L lv ∗ cred (tallyAt (xcell a c i) () N) ∗ owes (c : Thread nD τ) O W ∗ atPos ER (xcell a c i) 0 ∅ 0)
      ⊢ iprop(((∃ W, owes (c : Thread nD τ) O W) ∗ atPos ER (xcell a c i) (0 + 1) ∅ 0 ∗ xPay A a c i
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s src dst h1 h2) k) Q) := by
  subst hs
  iintro ⟨#HI, #Hlev, Hc, HO, Hat⟩ Hk
  iapply (Rounds.wp_wait_rest_token 𝒱₀ ER (sched A) (c : Thread nD τ) none (κ := K (xcell a c i)) (k' := N)
      (fun K' => (wpE_waitDma2_eq (src := src) (dst := dst) 𝒱₀ (c : Thread nD τ) none Set.univ K').trans (by rw [hN]))
      (Set.mem_univ _) () (O := O) (W := W) (R := 0) (m := 0) (T := ∅)
      ((Nat.zero_add _).trans (expect_x A a c i).symm)) $$ [Hc HO Hat]
  · isplitr; · iapply (inv_x A K a c i); iexact HI
    isplitl [Hc]; · iexact Hc
    isplitl [HO]; · iexact HO
    isplitr; · iapply hmay; iexact Hlev
    iexact Hat
  iintro ⟨HO, Hat, -, Hpay⟩
  ihave Hp := (Entails.of_eq (rest_x A a c i)) $$ Hpay
  iapply Hk
  isplitl [HO]; · iexists _; iexact HO
  isplitl [Hat]; · iexact Hat
  iexact Hp

/-- A device that owes nothing may wait for anything. -/
theorem mayWait_none (s : SemLoc sig) : (levAts L lv : sProp 𝕄) ⊢ MayWait (c : Thread nD τ) s () (owe c 0) := by
  show _ ⊢ MayWait (c : Thread nD τ) s () 0
  rw [MayWait_zero]; iintro -; iempintro

end Steps

end Cert.KernelIdeal.Ring
-- ==== Proof.KBody.lean ====
/-
# One device's run of the kernel

The kernel's body at a symbolic device, from what the device holds when the kernel starts to what it holds at the end:
its counters back at zero, its operands as they were, and its result at the contents `outOf` names.
-/
module

public import proofs.«01_k».proof.Proof.KSteps
public import Idealize.ShloMosaic.Lib.Exec

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

/-- The body as the launch calls it. -/
abbrev kbody : Prog (TpuEff nD τ sig (Elt F) Λ₀ .tc) PUnit :=
  cc0_body xM (Memref.isWhole_whole _) wqM (Memref.isWhole_whole _) kM (Memref.isWhole_whole _) vM (Memref.isWhole_whole _)
    woM (Memref.isWhole_whole _) outM (Memref.isWhole_whole _) partM (Memref.isWhole_whole _) rsM (Memref.isWhole_whole _)
    redM (Memref.isWhole_whole _) agM (Memref.isWhole_whole _) cc0_scratch4 cc0_scratch5 cc0_scratch6 cc0_scratch7

/-- Three summands, one by one. -/
theorem three {M : Type} [URA M] (Φ : Fin 3 → sProp M) : (bigSep Finset.univ Φ : sProp M) = iprop(Φ 0 ∗ Φ 1 ∗ Φ 2) := by
  rw [bigSep_univ_eq_bigSepL [0, 1, 2] (by decide) (by decide), bigSepL_cons_cons, bigSepL_cons_cons, bigSepL_singleton]; rfl

/-- A whole buffer of the device, held at given contents. -/
abbrev pt (c : Dev nD) (r : Ref sig .tc) (f : Buf (Elt F) ((c : Thread nD τ).loc r)) : sProp 𝕄 := ((c : Thread nD τ).loc r) ↦{fullShare} f

section Parts

variable (A : Dev nD → Ins F) (K : GSem nD τ sig → ℕ) (c : Dev nD)

/-- The tokens of the five raises the device makes for peer `i`. -/
def toks (i : Fin 3) : sProp 𝕄 :=
  iprop(dutyTok ER (barCell (peer c i)) 0 i.rev ∗ dutyTok ER (xcell 0 c i) 0 0 ∗ dutyTok ER (xcell 1 (peer c i) i.rev) 0 0
    ∗ dutyTok ER (xcell 2 c i) 0 0 ∗ dutyTok ER (xcell 3 (peer c i) i.rev) 0 0)
/-- The device's place at its four transfer semaphores number `i`. -/
def spots (i : Fin 3) : sProp 𝕄 :=
  iprop(atPos ER (xcell 0 c i) 0 ∅ 0 ∗ atPos ER (xcell 1 c i) 0 ∅ 0 ∗ atPos ER (xcell 2 c i) 0 ∅ 0 ∗ atPos ER (xcell 3 c i) 0 ∅ 0)
def marks (i : Fin 3) : sProp 𝕄 :=
  iprop(reached ER (xcell 0 c i) 0 ∗ reached ER (xcell 1 c i) 0 ∗ reached ER (xcell 2 c i) 0 ∗ reached ER (xcell 3 c i) 0)
instance marks_persistent (i : Fin 3) : BI.Persistent (marks (F := F) c i) := by unfold marks; infer_instance
/-- What the device may wait for without having raised it. -/
def creds (i : Fin 3) : sProp 𝕄 := iprop(cred (tallyAt (xcell 1 c i) () N) ∗ cred (tallyAt (xcell 3 c i) () N))
/-- The counters of its four transfer semaphores number `i`, at zero. -/
def zeros (i : Fin 3) : sProp 𝕄 :=
  iprop(semVal (xcell 0 c i) 0 ∗ semVal (xcell 1 c i) 0 ∗ semVal (xcell 2 c i) 0 ∗ semVal (xcell 3 c i) 0)

/-- The operands in their staging buffers. -/
def insPts (I : Ins F) : sProp 𝕄 :=
  iprop(pt c cc0_stg0_0 I.x ∗ pt c cc0_stg1_0 I.wq ∗ pt c cc0_stg2_0 I.k ∗ pt c cc0_stg3_0 I.v ∗ pt c cc0_stg4_0 I.wo)
/-- The four scratch buffers, at contents not chosen. -/
def scrAny : sProp 𝕄 :=
  iprop((∃ f, pt (F := F) c cc0_scratch0 f) ∗ (∃ f, pt (F := F) c cc0_scratch1 f) ∗ (∃ f, pt (F := F) c cc0_scratch2 f) ∗ (∃ f, pt (F := F) c cc0_scratch3 f))

/-- What the device holds when the body starts, -/
def bodyPre (W : Waits sig Unit) : sProp 𝕄 :=
  iprop(invs A K ∗ levAts L lv ∗ atPos ER (barCell c) 0 ∅ 0 ∗ cred (tallyAt (barCell c) () 3)
    ∗ bigSep Finset.univ (toks (F := F) c) ∗ bigSep Finset.univ (spots (F := F) c) ∗ bigSep Finset.univ (marks (F := F) c) ∗ bigSep Finset.univ (creds (F := F) c)
    ∗ insPts c (A c) ∗ (∃ f, pt c cc0_stg5_0 f) ∗ scrAny (F := F) c ∗ owes (c : Thread nD τ) (O₀ c) W)
/-- and when it ends. -/
def bodyPost : sProp 𝕄 :=
  iprop(semVal (barCell c) 0 ∗ bigSep Finset.univ (zeros (F := F) c)
    ∗ insPts c (A c) ∗ pt c cc0_stg5_0 (outOf A c) ∗ scrAny (F := F) c ∗ ∃ W, owes (c : Thread nD τ) (0 : CellTallies nD τ sig Unit) W)

/-! ## The buffers, cut and joined -/

/-- The buffer of partial rows, whatever it holds, is its three slots, whatever they hold. -/
theorem rs_holes (f : Buf (Elt F) ((c : Thread nD τ).loc cc0_scratch1)) :
    (pt c cc0_scratch1 f : sProp 𝕄) ⊢ iprop(rsHole c 0 ∗ rsHole c 1 ∗ (rsHole c 2 : sProp 𝕄)) := by
  rw [pt, rs_slots, three]; unfold rsHole
  iintro ⟨H0, H1, H2⟩
  isplitl [H0]; · iexists f; iexact H0
  isplitl [H1]; · iexists f; iexact H1
  iexists f; iexact H2
/-- The same for the buffer of reduced rows. -/
theorem ag_holes (f : Buf (Elt F) ((c : Thread nD τ).loc cc0_scratch3)) :
    (pt c cc0_scratch3 f : sProp 𝕄) ⊢ iprop(agHole c 0 ∗ agHole c 1 ∗ (agHole c 2 : sProp 𝕄)) := by
  rw [pt, ag_slots, three]; unfold agHole
  iintro ⟨H0, H1, H2⟩
  isplitl [H0]; · iexists f; iexact H0
  isplitl [H1]; · iexists f; iexact H1
  iexists f; iexact H2
/-- The three slots with the partial rows that landed are the whole buffer at `rsAll`. -/
theorem rs_join : iprop(rsGot A c 0 ∗ rsGot A c 1 ∗ rsGot A c 2) ⊢ (pt c cc0_scratch1 (rsAll A c) : sProp 𝕄) := by
  rw [pt, rs_slots, three]; unfold rsGot; exact Entails.rfl
/-- The three slots with the reduced rows that landed are the whole buffer at `agAll`. -/
theorem ag_join : iprop(agGot A c 0 ∗ agGot A c 1 ∗ agGot A c 2) ⊢ (pt c cc0_scratch3 (agAll A c) : sProp 𝕄) := by
  rw [pt, ag_slots, three]; unfold agGot; exact Entails.rfl
/-- The device's own rows of its partial result, which no transfer reads. -/
def ownPts : sProp 𝕄 := ((c : Thread nD τ).loc cc0_scratch0) ↦[ownSet c]{fullShare} pbuf (A c)
/-- The partial result is cut into the rows of the three transfers and the device's own. -/
theorem part_cut : (pt c cc0_scratch0 (pbuf (A c)) : sProp 𝕄) ⊢ iprop(rsSrc A c 0 ∗ rsSrc A c 1 ∗ rsSrc A c 2 ∗ ownPts A c) := by
  refine (part_slabs c fullShare (pbuf (A c))).1.trans ?_
  rw [three]; unfold rsSrc ownPts
  iintro ⟨⟨H0, H1, H2⟩, H3⟩
  isplitl [H0]; · iexact H0
  isplitl [H1]; · iexact H1
  isplitl [H2]; · iexact H2
  iexact H3
/-- The rows of the three transfers and the device's own are the partial result again. -/
theorem part_join : iprop(rsSrc A c 0 ∗ rsSrc A c 1 ∗ rsSrc A c 2 ∗ ownPts A c) ⊢ (pt c cc0_scratch0 (pbuf (A c)) : sProp 𝕄) := by
  refine BIBase.Entails.trans ?_ (part_slabs c fullShare (pbuf (A c))).2
  rw [three]; unfold rsSrc ownPts
  iintro ⟨H0, H1, H2, H3⟩
  isplitl [H0 H1 H2]
  · isplitl [H0]; · iexact H0
    isplitl [H1]; · iexact H1
    iexact H2
  iexact H3
/-- The reduced rows, read by three transfers at once, are cut into three shares. -/
theorem red_cut : (pt c cc0_scratch2 (redOf A c) : sProp 𝕄) ⊢ iprop(agSrc A c 0 ∗ agSrc A c 1 ∗ agSrc A c 2) := by
  unfold agSrc; rw [View.set_whole]
  exact (pointsTo_thirds fullShare _).1
/-- The three shares are the reduced rows held whole again. -/
theorem red_join : iprop(agSrc A c 0 ∗ agSrc A c 1 ∗ agSrc A c 2) ⊢ (pt c cc0_scratch2 (redOf A c) : sProp 𝕄) := by
  unfold agSrc; rw [View.set_whole]
  exact (pointsTo_thirds fullShare _).2

/-- A read of a slot touches the slot alone. -/
theorem rs_read (j : Fin 3) :
    rsM.view.setOn (Rect.unit (s := S3x2x64x512) ![j.val, 0, 0, 0] S1x2x64x512.size (inbSlot j)).toLoadRect.set ⊆ (rsSlot j).view.set := by
  rw [show (rsSlot j).view.set = _ from (View.set_reshape _ _).trans (View.set_slice _ _)]
  exact Finset.Subset.refl _
/-- The same for the slots of reduced rows. -/
theorem ag_read (j : Fin 3) :
    agM.view.setOn (Rect.unit (s := S3x2x64x512) ![j.val, 0, 0, 0] S1x2x64x512.size (inbSlot j)).toLoadRect.set ⊆ (agSlot j).view.set := by
  rw [show (agSlot j).view.set = _ from (View.set_reshape _ _).trans (View.set_slice _ _)]
  exact Finset.Subset.refl _

/-- A buffer held at some contents is held at equal ones. -/
theorem pt_eq (r : Ref sig .tc) {f g : Buf (Elt F) ((c : Thread nD τ).loc r)} (h : f = g) : (pt c r f : sProp 𝕄) ⊢ pt c r g := by rw [h]
/-- A store of a whole buffer leaves what it stores. -/
theorem fill_out (f w : (cc0_stg5_0 : Ref sig .tc).ty.Contents (Elt F)) (inb : ∀ a, (![0, 0, 0] : Fin 3 → Nat) a + S2x256x512.size a ≤ S2x256x512.size a) :
    (outM.access (Rect.unit (s := S2x256x512) ![0, 0, 0] S2x256x512.size inb)).write (Elt F) f w Finset.univ = w :=
  Memref.write_access_unit_zero_univ (Elt F) cc0_stg5_0 (funext (by decide)) inb f w
/-- The same for the partial result's copy. -/
theorem fill_part (f w : (cc0_scratch0 : Ref sig .tc).ty.Contents (Elt F)) (inb : ∀ a, (![0, 0, 0] : Fin 3 → Nat) a + S2x256x512.size a ≤ S2x256x512.size a) :
    (partM.access (Rect.unit (s := S2x256x512) ![0, 0, 0] S2x256x512.size inb)).write (Elt F) f w Finset.univ = w :=
  Memref.write_access_unit_zero_univ (Elt F) cc0_scratch0 (funext (by decide)) inb f w
/-- The same for the reduced rows' copy. -/
theorem fill_red (f w : (cc0_scratch2 : Ref sig .tc).ty.Contents (Elt F)) (inb : ∀ a, (![0, 0, 0] : Fin 3 → Nat) a + S2x64x512.size a ≤ S2x64x512.size a) :
    (redM.access (Rect.unit (s := S2x64x512) ![0, 0, 0] S2x64x512.size inb)).write (Elt F) f w Finset.univ = w :=
  Memref.write_access_unit_zero_univ (Elt F) cc0_scratch2 (funext (by decide)) inb f w

/-- A store into one of the device's own buffers. -/
theorem store_out {α : Type} {R : Rect S2x256x512} {w : R.shape.Idx → Elt F .f32} {hx : (outM.access R).Stores Finset.univ}
    {hm : (Finset.univ : Finset R.shape.Idx) = Finset.univ ∨ ∀ a, R.stride a = 1} {k : PUnit → Prog (TpuEff nD τ sig (Elt F) Λ₀ .tc) α} {Q : α → sProp 𝕄}
    {f : (cc0_stg5_0 : Ref sig .tc).ty.Contents (Elt F)} :
    (pt c cc0_stg5_0 f : sProp 𝕄)
      ⊢ iprop((pt c cc0_stg5_0 ((outM.access R).write (Elt F) f w Finset.univ) -∗ wp frame (wpE (defs₀ (F := F)) 𝒱₀ (c : Thread nD τ) none) Set.univ (k ⟨⟩) Q)
        -∗ wp frame (wpE (defs₀ (F := F)) 𝒱₀ (c : Thread nD τ) none) Set.univ (.op (.store outM R w Finset.univ hx hm) k) Q) :=
  wp_store (defs := defs₀ (F := F)) 𝒱₀ (c : Thread nD τ) none Set.univ (m := outM) (r := R) (w := w) (Mk := Finset.univ) (hx := hx) (hm := hm) (k := k) (S := Finset.univ) (f := f) (Finset.subset_univ _)
/-- The same for the partial result's copy. -/
theorem store_part {α : Type} {R : Rect S2x256x512} {w : R.shape.Idx → Elt F .bf16} {hx : (partM.access R).Stores Finset.univ}
    {hm : (Finset.univ : Finset R.shape.Idx) = Finset.univ ∨ ∀ a, R.stride a = 1} {k : PUnit → Prog (TpuEff nD τ sig (Elt F) Λ₀ .tc) α} {Q : α → sProp 𝕄}
    {f : (cc0_scratch0 : Ref sig .tc).ty.Contents (Elt F)} :
    (pt c cc0_scratch0 f : sProp 𝕄)
      ⊢ iprop((pt c cc0_scratch0 ((partM.access R).write (Elt F) f w Finset.univ) -∗ wp frame (wpE (defs₀ (F := F)) 𝒱₀ (c : Thread nD τ) none) Set.univ (k ⟨⟩) Q)
        -∗ wp frame (wpE (defs₀ (F := F)) 𝒱₀ (c : Thread nD τ) none) Set.univ (.op (.store partM R w Finset.univ hx hm) k) Q) :=
  wp_store (defs := defs₀ (F := F)) 𝒱₀ (c : Thread nD τ) none Set.univ (m := partM) (r := R) (w := w) (Mk := Finset.univ) (hx := hx) (hm := hm) (k := k) (S := Finset.univ) (f := f) (Finset.subset_univ _)
/-- The same for the reduced rows' copy. -/
theorem store_red {α : Type} {R : Rect S2x64x512} {w : R.shape.Idx → Elt F .bf16} {hx : (redM.access R).Stores Finset.univ}
    {hm : (Finset.univ : Finset R.shape.Idx) = Finset.univ ∨ ∀ a, R.stride a = 1} {k : PUnit → Prog (TpuEff nD τ sig (Elt F) Λ₀ .tc) α} {Q : α → sProp 𝕄}
    {f : (cc0_scratch2 : Ref sig .tc).ty.Contents (Elt F)} :
    (pt c cc0_scratch2 f : sProp 𝕄)
      ⊢ iprop((pt c cc0_scratch2 ((redM.access R).write (Elt F) f w Finset.univ) -∗ wp frame (wpE (defs₀ (F := F)) 𝒱₀ (c : Thread nD τ) none) Set.univ (k ⟨⟩) Q)
        -∗ wp frame (wpE (defs₀ (F := F)) 𝒱₀ (c : Thread nD τ) none) Set.univ (.op (.store redM R w Finset.univ hx hm) k) Q) :=
  wp_store (defs := defs₀ (F := F)) 𝒱₀ (c : Thread nD τ) none Set.univ (m := redM) (r := R) (w := w) (Mk := Finset.univ) (hx := hx) (hm := hm) (k := k) (S := Finset.univ) (f := f) (Finset.subset_univ _)

/-- The sum that the body computes from its loads is `accOf`. -/
theorem acc_def : k0_pay22 (k0_pay20 (outM.view.readAt (Elt F) (Rect.unit (s := S2x256x512) (k0_off2 c) S2x64x512.size (k0_off2_inb c)).toLoadRect (partOf (A c))))
    (k0_pay21 (ldR 0 (rsAll A c))) (ldR 2 (rsAll A c)) (ldR 1 (rsAll A c)) = accOf A c := rfl
/-- The result after the store of the device's own rows is `out1`. -/
theorem out1_def : (outM.access (Rect.unit (s := S2x256x512) (k0_off2 c) S2x64x512.size (k0_off2_inb c))).write (Elt F) (partOf (A c))
    (k0_pay22 (k0_pay20 (outM.view.readAt (Elt F) (Rect.unit (s := S2x256x512) (k0_off2 c) S2x64x512.size (k0_off2_inb c)).toLoadRect (partOf (A c))))
      (k0_pay21 (ldR 0 (rsAll A c))) (ldR 2 (rsAll A c)) (ldR 1 (rsAll A c))) Finset.univ = out1 A c := rfl
/-- The result after the stores of the three peers' rows is `outOf`. -/
theorem outOf_def : (outM.access (Rect.unit (s := S2x256x512) (k0_off3 c 2#32) S2x64x512.size (k0_off3_inb c 1))).write (Elt F)
    ((outM.access (Rect.unit (s := S2x256x512) (k0_off3 c 3#32) S2x64x512.size (k0_off3_inb c 2))).write (Elt F)
      ((outM.access (Rect.unit (s := S2x256x512) (k0_off3 c 1#32) S2x64x512.size (k0_off3_inb c 0))).write (Elt F)
        (out1 A c) (k0_pay24 (ldA 0 (agAll A c))) Finset.univ)
      (k0_pay25 (ldA 2 (agAll A c))) Finset.univ)
    (k0_pay26 (ldA 1 (agAll A c))) Finset.univ = outOf A c := rfl

/-- A first transfer's sender gets its source back; -/
theorem xPay_zero (i : Fin 3) : xPay A 0 c i = rsSrc A c i := rfl
/-- its receiver gets the slot with what landed. -/
theorem xPay_one (i : Fin 3) : xPay A 1 c i = rsGot A c i := rfl
/-- A second transfer's sender gets its share of the source back; -/
theorem xPay_two (i : Fin 3) : xPay A 2 c i = agSrc A c i := rfl
/-- its receiver gets the slot with what landed. -/
theorem xPay_three (i : Fin 3) : xPay A 3 c i = agGot A c i := rfl

/-- A barrier whose one round is over stands at zero and leaves the protocol. -/
theorem close_bar : iprop(invs A K ∗ atPos ER (barCell c) (0 + 1) ∅ 0) ⊢ (|={Set.univ}=> semVal (barCell c) 0 : sProp 𝕄) := by
  iintro ⟨#HI, H⟩
  iapply (Rounds.cell_close ER (sched A) (g := barCell c) (κ := K (barCell c)) (Set.mem_univ _) id (duties_later A (barCell c)))
  isplitr; · iapply (inv_bar A K c); iexact HI
  iexact H
/-- So does a transfer semaphore. -/
theorem close_x (a : Fin 4) (i : Fin 3) :
    iprop(invs A K ∗ atPos ER (xcell a c i) (0 + 1) ∅ 0) ⊢ (|={Set.univ}=> semVal (xcell a c i) 0 : sProp 𝕄) := by
  iintro ⟨#HI, H⟩
  iapply (Rounds.cell_close ER (sched A) (g := xcell a c i) (κ := K (xcell a c i)) (Set.mem_univ _) id (duties_later A (xcell a c i)))
  isplitr; · iapply (inv_x A K a c i); iexact HI
  iexact H
/-- The device's place at its transfer semaphores number `i` after their round. -/
def ends (i : Fin 3) : sProp 𝕄 :=
  iprop(atPos ER (xcell 0 c i) (0 + 1) ∅ 0 ∗ atPos ER (xcell 1 c i) (0 + 1) ∅ 0 ∗ atPos ER (xcell 2 c i) (0 + 1) ∅ 0 ∗ atPos ER (xcell 3 c i) (0 + 1) ∅ 0)
/-- So do the four transfer semaphores of one number. -/
theorem close_four (i : Fin 3) : iprop(invs A K ∗ ends (F := F) c i) ⊢ (|={Set.univ}=> zeros (F := F) c i : sProp 𝕄) := by
  unfold ends zeros
  iintro ⟨#HI, H0, H1, H2, H3⟩
  imod (close_x A K c 0 i) $$ [H0] with Z0
  · isplitr; · iexact HI
    iexact H0
  imod (close_x A K c 1 i) $$ [H1] with Z1
  · isplitr; · iexact HI
    iexact H1
  imod (close_x A K c 2 i) $$ [H2] with Z2
  · isplitr; · iexact HI
    iexact H2
  imod (close_x A K c 3 i) $$ [H3] with Z3
  · isplitr; · iexact HI
    iexact H3
  imodintro
  isplitl [Z0]; · iexact Z0
  isplitl [Z1]; · iexact Z1
  isplitl [Z2]; · iexact Z2
  iexact Z3

set_option maxHeartbeats 3200000 in
/-- One device's body, from what it starts with to what it leaves, under any continuation. -/
theorem body_run (W : Waits sig Unit) (Kt : PUnit → sProp 𝕄) :
    iprop(bodyPre A K c W ∗ (bodyPost A c -∗ Kt ⟨⟩))
      ⊢ wp frame (wpE (defs₀ (F := F)) 𝒱₀ (c : Thread nD τ) none) Set.univ (kbody (F := F)) Kt := by
  unfold kbody
  rw [cc0_body_eq_skeleton]
  unfold cc0_body_skel
  simp only [k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel,
    semSignalWord, semWaitWord, Prog.lift, Prog.bind_op, Prog.bind_ret, Prog.pure_eq_ret, wp_deviceId]
  unfold bodyPre insPts scrAny
  rw [three, three, three, three]
  unfold toks spots marks creds
  iintro ⟨⟨#HI, #Hlev, HatB, HcB, ⟨⟨TB0, TS0, TR0, TG0, TA0⟩, ⟨TB1, TS1, TR1, TG1, TA1⟩, ⟨TB2, TS2, TR2, TG2, TA2⟩⟩,
    ⟨⟨P00, P10, P20, P30⟩, ⟨P01, P11, P21, P31⟩, ⟨P02, P12, P22, P32⟩⟩,
    ⟨⟨#R00, #R10, #R20, #R30⟩, ⟨#R01, #R11, #R21, #R31⟩, ⟨#R02, #R12, #R22, #R32⟩⟩,
    ⟨⟨C10, C30⟩, ⟨C11, C31⟩, ⟨C12, C32⟩⟩,
    ⟨Hx, Hwq, Hk, Hv, Hwo⟩, ⟨%fo, Ho⟩, ⟨⟨%f0, H0⟩, ⟨%f1, H1⟩, ⟨%f2, H2⟩, ⟨%f3, H3⟩⟩, HO⟩, Hend⟩
  ihave Hr := (rs_holes c f1) $$ H1
  icases Hr with ⟨Hr0, Hr1, Hr2⟩
  ihave Ha := (ag_holes c f3) $$ H3
  icases Ha with ⟨Ha0, Ha1, Ha2⟩
  iapply (step_signal A K c 0 _ (dev1_eq c) (owe c 9) (owe c 8) rfl W (by decide) rfl) $$ [HO TB0 Hr0 Ha0]
  · isplitr; · iexact HI
    isplitl [HO]; · iexact HO
    isplitl [TB0]; · iexact TB0
    isplitl [Hr0]; · iexact Hr0
    isplitl [Ha0]; · iexact Ha0
    isplitr; · iexact R10
    iexact R30
  iintro HO
  iapply (step_signal A K c 1 _ (dev2_eq c) (owe c 8) (owe c 7) rfl W (by decide) rfl) $$ [HO TB1 Hr1 Ha1]
  · isplitr; · iexact HI
    isplitl [HO]; · iexact HO
    isplitl [TB1]; · iexact TB1
    isplitl [Hr1]; · iexact Hr1
    isplitl [Ha1]; · iexact Ha1
    isplitr; · iexact R11
    iexact R31
  iintro HO
  iapply (step_signal A K c 2 _ (dev3_eq c) (owe c 7) (owe c 6) rfl W (by decide) rfl) $$ [HO TB2 Hr2 Ha2]
  · isplitr; · iexact HI
    isplitl [HO]; · iexact HO
    isplitl [TB2]; · iexact TB2
    isplitl [Hr2]; · iexact Hr2
    isplitl [Ha2]; · iexact Ha2
    isplitr; · iexact R12
    iexact R32
  iintro HO
  iapply (step_bar A K c W (by decide) rfl) $$ [HcB HO HatB]
  · isplitr; · iexact HI
    isplitr; · iexact Hlev
    isplitl [HcB]; · iexact HcB
    isplitl [HO]; · iexact HO
    iexact HatB
  unfold barPay
  iintro ⟨⟨%W1, HO⟩, HatB, ⟨Hr0, Ha0, #Q10, #Q30⟩, ⟨Hr1, Ha1, #Q11, #Q31⟩, Hr2, Ha2, #Q12, #Q32⟩
  iapply (wp_load 𝒱₀ (c : Thread nD τ) none Set.univ (m := xM) (S := Finset.univ) (Finset.subset_univ _)) $$ Hx; iintro Hx
  iapply (wp_load 𝒱₀ (c : Thread nD τ) none Set.univ (m := wqM) (S := Finset.univ) (Finset.subset_univ _)) $$ Hwq; iintro Hwq
  iapply (wp_load 𝒱₀ (c : Thread nD τ) none Set.univ (m := kM) (S := Finset.univ) (Finset.subset_univ _)) $$ Hk; iintro Hk
  iapply (wp_load 𝒱₀ (c : Thread nD τ) none Set.univ (m := vM) (S := Finset.univ) (Finset.subset_univ _)) $$ Hv; iintro Hv
  iapply (wp_load 𝒱₀ (c : Thread nD τ) none Set.univ (m := kM) (S := Finset.univ) (Finset.subset_univ _)) $$ Hk; iintro Hk
  iapply (wp_load 𝒱₀ (c : Thread nD τ) none Set.univ (m := vM) (S := Finset.univ) (Finset.subset_univ _)) $$ Hv; iintro Hv
  iapply (wp_load 𝒱₀ (c : Thread nD τ) none Set.univ (m := kM) (S := Finset.univ) (Finset.subset_univ _)) $$ Hk; iintro Hk
  iapply (wp_load 𝒱₀ (c : Thread nD τ) none Set.univ (m := vM) (S := Finset.univ) (Finset.subset_univ _)) $$ Hv; iintro Hv
  iapply (wp_load 𝒱₀ (c : Thread nD τ) none Set.univ (m := kM) (S := Finset.univ) (Finset.subset_univ _)) $$ Hk; iintro Hk
  iapply (wp_load 𝒱₀ (c : Thread nD τ) none Set.univ (m := vM) (S := Finset.univ) (Finset.subset_univ _)) $$ Hv; iintro Hv
  iapply (wp_load 𝒱₀ (c : Thread nD τ) none Set.univ (m := kM) (S := Finset.univ) (Finset.subset_univ _)) $$ Hk; iintro Hk
  iapply (wp_load 𝒱₀ (c : Thread nD τ) none Set.univ (m := vM) (S := Finset.univ) (Finset.subset_univ _)) $$ Hv; iintro Hv
  iapply (wp_load 𝒱₀ (c : Thread nD τ) none Set.univ (m := kM) (S := Finset.univ) (Finset.subset_univ _)) $$ Hk; iintro Hk
  iapply (wp_load 𝒱₀ (c : Thread nD τ) none Set.univ (m := vM) (S := Finset.univ) (Finset.subset_univ _)) $$ Hv; iintro Hv
  iapply (wp_load 𝒱₀ (c : Thread nD τ) none Set.univ (m := kM) (S := Finset.univ) (Finset.subset_univ _)) $$ Hk; iintro Hk
  iapply (wp_load 𝒱₀ (c : Thread nD τ) none Set.univ (m := vM) (S := Finset.univ) (Finset.subset_univ _)) $$ Hv; iintro Hv
  iapply (wp_load 𝒱₀ (c : Thread nD τ) none Set.univ (m := kM) (S := Finset.univ) (Finset.subset_univ _)) $$ Hk; iintro Hk
  iapply (wp_load 𝒱₀ (c : Thread nD τ) none Set.univ (m := vM) (S := Finset.univ) (Finset.subset_univ _)) $$ Hv; iintro Hv
  iapply (wp_load 𝒱₀ (c : Thread nD τ) none Set.univ (m := woM) (S := Finset.univ) (Finset.subset_univ _)) $$ Hwo; iintro Hwo
  --REST
  iapply (wp_load 𝒱₀ (c : Thread nD τ) none Set.univ (m := outM) (S := Finset.univ) (Finset.subset_univ _)) $$ Ho; iintro Ho
  iapply (store_out c) $$ Ho; iintro Ho
  ihave Ho := (pt_eq c cc0_stg5_0 (fill_out _ (partOf (A c)) _)) $$ Ho
  iapply (wp_load 𝒱₀ (c : Thread nD τ) none Set.univ (m := partM) (S := Finset.univ) (Finset.subset_univ _)) $$ H0; iintro H0
  iapply (store_part c) $$ H0; iintro H0
  ihave H0 := (pt_eq c cc0_scratch0 (fill_part _ (pbuf (A c)) _)) $$ H0
  ihave Hs := (part_cut A c) $$ H0
  icases Hs with ⟨S0, S1, S2, Hown⟩
  iapply (step_rs A K c 0 _ (dev4_eq c) (owe c 6) (owe c 5) rfl W1 rfl rfl rfl rfl) $$ [HO S0 Hr0 TS0 TR0]
  · isplitr; · iexact HI
    isplitl [HO]; · iexact HO
    isplitl [S0]; · iexact S0
    isplitl [Hr0]; · iexact Hr0
    isplitl [TS0]; · iexact TS0
    isplitr; · iexact R00
    isplitl [TR0]; · iexact TR0
    iexact Q10
  iintro ⟨C00, HO⟩
  iapply (step_rs A K c 1 _ (dev5_eq c) (owe c 5) (owe c 4) rfl W1 rfl rfl rfl rfl) $$ [HO S1 Hr1 TS1 TR1]
  · isplitr; · iexact HI
    isplitl [HO]; · iexact HO
    isplitl [S1]; · iexact S1
    isplitl [Hr1]; · iexact Hr1
    isplitl [TS1]; · iexact TS1
    isplitr; · iexact R01
    isplitl [TR1]; · iexact TR1
    iexact Q11
  iintro ⟨C01, HO⟩
  iapply (step_rs A K c 2 _ (dev6_eq c) (owe c 4) (owe c 3) rfl W1 rfl rfl rfl rfl) $$ [HO S2 Hr2 TS2 TR2]
  · isplitr; · iexact HI
    isplitl [HO]; · iexact HO
    isplitl [S2]; · iexact S2
    isplitl [Hr2]; · iexact Hr2
    isplitl [TS2]; · iexact TS2
    isplitr; · iexact R02
    isplitl [TR2]; · iexact TR2
    iexact Q12
  iintro ⟨C02, HO⟩
  iapply (wp_load 𝒱₀ (c : Thread nD τ) none Set.univ (m := outM) (S := Finset.univ) (Finset.subset_univ _)) $$ Ho; iintro Ho
  iapply (step_wait A K c 1 0 (owe c 3) W1 (mayWait_rs c 0) rfl (by rfl)) $$ [C10 HO P10]
  · isplitr; · iexact HI
    isplitr; · iexact Hlev
    isplitl [C10]; · iexact C10
    isplitl [HO]; · iexact HO
    iexact P10
  iintro ⟨⟨%W2, HO⟩, P10, G0⟩
  ihave G0 := (Entails.of_eq (xPay_one A c 0)) $$ G0
  unfold rsGot
  iapply (wp_load 𝒱₀ (c : Thread nD τ) none Set.univ (m := rsM) (S := (rsSlot 0).view.set) (rs_read 0)) $$ G0; iintro G0
  iapply (step_wait A K c 1 2 (owe c 3) W2 (mayWait_rs c 2) rfl (by rfl)) $$ [C12 HO P12]
  · isplitr; · iexact HI
    isplitr; · iexact Hlev
    isplitl [C12]; · iexact C12
    isplitl [HO]; · iexact HO
    iexact P12
  iintro ⟨⟨%W3, HO⟩, P12, G2⟩
  ihave G2 := (Entails.of_eq (xPay_one A c 2)) $$ G2
  unfold rsGot
  iapply (wp_load 𝒱₀ (c : Thread nD τ) none Set.univ (m := rsM) (S := (rsSlot 2).view.set) (rs_read 2)) $$ G2; iintro G2
  iapply (step_wait A K c 1 1 (owe c 3) W3 (mayWait_rs c 1) rfl (by rfl)) $$ [C11 HO P11]
  · isplitr; · iexact HI
    isplitr; · iexact Hlev
    isplitl [C11]; · iexact C11
    isplitl [HO]; · iexact HO
    iexact P11
  iintro ⟨⟨%W4, HO⟩, P11, G1⟩
  ihave G1 := (Entails.of_eq (xPay_one A c 1)) $$ G1
  unfold rsGot
  iapply (wp_load 𝒱₀ (c : Thread nD τ) none Set.univ (m := rsM) (S := (rsSlot 1).view.set) (rs_read 1)) $$ G1; iintro G1
  iapply (wp_load 𝒱₀ (c : Thread nD τ) none Set.univ (m := outM) (S := Finset.univ) (Finset.subset_univ _)) $$ Ho; iintro Ho
  iapply (store_out c) $$ Ho; iintro Ho
  ihave Ho := (pt_eq c cc0_stg5_0 (out1_def A c)) $$ Ho
  iapply (wp_load 𝒱₀ (c : Thread nD τ) none Set.univ (m := redM) (S := Finset.univ) (Finset.subset_univ _)) $$ H2; iintro H2
  iapply (store_red c) $$ H2; iintro H2
  ihave H2 := (pt_eq c cc0_scratch2 (fill_red _ (redOf A c) _)) $$ H2
  ihave Hs := (red_cut A c) $$ H2
  icases Hs with ⟨D0, D1, D2⟩
  iapply (step_ag A K c 0 _ (dev7_eq c) (owe c 3) (owe c 2) rfl W4 rfl rfl rfl rfl) $$ [HO D0 Ha0 TG0 TA0]
  · isplitr; · iexact HI
    isplitl [HO]; · iexact HO
    isplitl [D0]; · iexact D0
    isplitl [Ha0]; · iexact Ha0
    isplitl [TG0]; · iexact TG0
    isplitr; · iexact R20
    isplitl [TA0]; · iexact TA0
    iexact Q30
  iintro ⟨C20, HO⟩
  iapply (step_ag A K c 1 _ (dev8_eq c) (owe c 2) (owe c 1) rfl W4 rfl rfl rfl rfl) $$ [HO D1 Ha1 TG1 TA1]
  · isplitr; · iexact HI
    isplitl [HO]; · iexact HO
    isplitl [D1]; · iexact D1
    isplitl [Ha1]; · iexact Ha1
    isplitl [TG1]; · iexact TG1
    isplitr; · iexact R21
    isplitl [TA1]; · iexact TA1
    iexact Q31
  iintro ⟨C21, HO⟩
  iapply (step_ag A K c 2 _ (dev9_eq c) (owe c 1) (owe c 0) rfl W4 rfl rfl rfl rfl) $$ [HO D2 Ha2 TG2 TA2]
  · isplitr; · iexact HI
    isplitl [HO]; · iexact HO
    isplitl [D2]; · iexact D2
    isplitl [Ha2]; · iexact Ha2
    isplitl [TG2]; · iexact TG2
    isplitr; · iexact R22
    isplitl [TA2]; · iexact TA2
    iexact Q32
  iintro ⟨C22, HO⟩
  iapply (step_wait A K c 3 0 (owe c 0) W4 (mayWait_none c _) rfl (by rfl)) $$ [C30 HO P30]
  · isplitr; · iexact HI
    isplitr; · iexact Hlev
    isplitl [C30]; · iexact C30
    isplitl [HO]; · iexact HO
    iexact P30
  iintro ⟨⟨%W5, HO⟩, P30, E0⟩
  ihave E0 := (Entails.of_eq (xPay_three A c 0)) $$ E0
  unfold agGot
  iapply (wp_load 𝒱₀ (c : Thread nD τ) none Set.univ (m := agM) (S := (agSlot 0).view.set) (ag_read 0)) $$ E0; iintro E0
  iapply (wp_load 𝒱₀ (c : Thread nD τ) none Set.univ (m := outM) (S := Finset.univ) (Finset.subset_univ _)) $$ Ho; iintro Ho
  iapply (store_out c) $$ Ho; iintro Ho
  iapply (step_wait A K c 3 2 (owe c 0) W5 (mayWait_none c _) rfl (by rfl)) $$ [C32 HO P32]
  · isplitr; · iexact HI
    isplitr; · iexact Hlev
    isplitl [C32]; · iexact C32
    isplitl [HO]; · iexact HO
    iexact P32
  iintro ⟨⟨%W6, HO⟩, P32, E2⟩
  ihave E2 := (Entails.of_eq (xPay_three A c 2)) $$ E2
  unfold agGot
  iapply (wp_load 𝒱₀ (c : Thread nD τ) none Set.univ (m := agM) (S := (agSlot 2).view.set) (ag_read 2)) $$ E2; iintro E2
  iapply (wp_load 𝒱₀ (c : Thread nD τ) none Set.univ (m := outM) (S := Finset.univ) (Finset.subset_univ _)) $$ Ho; iintro Ho
  iapply (store_out c) $$ Ho; iintro Ho
  iapply (step_wait A K c 3 1 (owe c 0) W6 (mayWait_none c _) rfl (by rfl)) $$ [C31 HO P31]
  · isplitr; · iexact HI
    isplitr; · iexact Hlev
    isplitl [C31]; · iexact C31
    isplitl [HO]; · iexact HO
    iexact P31
  iintro ⟨⟨%W7, HO⟩, P31, E1⟩
  ihave E1 := (Entails.of_eq (xPay_three A c 1)) $$ E1
  unfold agGot
  iapply (wp_load 𝒱₀ (c : Thread nD τ) none Set.univ (m := agM) (S := (agSlot 1).view.set) (ag_read 1)) $$ E1; iintro E1
  iapply (wp_load 𝒱₀ (c : Thread nD τ) none Set.univ (m := outM) (S := Finset.univ) (Finset.subset_univ _)) $$ Ho; iintro Ho
  iapply (store_out c) $$ Ho; iintro Ho
  ihave Ho := (pt_eq c cc0_stg5_0 (outOf_def A c)) $$ Ho
  iapply (step_wait A K c 0 0 (owe c 0) W7 (mayWait_none c _) rfl (by rfl)) $$ [C00 HO P00]
  · isplitr; · iexact HI
    isplitr; · iexact Hlev
    isplitl [C00]; · iexact C00
    isplitl [HO]; · iexact HO
    iexact P00
  iintro ⟨⟨%W8, HO⟩, P00, S0⟩
  ihave S0 := (Entails.of_eq (xPay_zero A c 0)) $$ S0
  iapply (step_wait A K c 2 0 (owe c 0) W8 (mayWait_none c _) rfl (by rfl)) $$ [C20 HO P20]
  · isplitr; · iexact HI
    isplitr; · iexact Hlev
    isplitl [C20]; · iexact C20
    isplitl [HO]; · iexact HO
    iexact P20
  iintro ⟨⟨%W9, HO⟩, P20, D0⟩
  ihave D0 := (Entails.of_eq (xPay_two A c 0)) $$ D0
  iapply (step_wait A K c 0 1 (owe c 0) W9 (mayWait_none c _) rfl (by rfl)) $$ [C01 HO P01]
  · isplitr; · iexact HI
    isplitr; · iexact Hlev
    isplitl [C01]; · iexact C01
    isplitl [HO]; · iexact HO
    iexact P01
  iintro ⟨⟨%W10, HO⟩, P01, S1⟩
  ihave S1 := (Entails.of_eq (xPay_zero A c 1)) $$ S1
  iapply (step_wait A K c 2 1 (owe c 0) W10 (mayWait_none c _) rfl (by rfl)) $$ [C21 HO P21]
  · isplitr; · iexact HI
    isplitr; · iexact Hlev
    isplitl [C21]; · iexact C21
    isplitl [HO]; · iexact HO
    iexact P21
  iintro ⟨⟨%W11, HO⟩, P21, D1⟩
  ihave D1 := (Entails.of_eq (xPay_two A c 1)) $$ D1
  iapply (step_wait A K c 0 2 (owe c 0) W11 (mayWait_none c _) rfl (by rfl)) $$ [C02 HO P02]
  · isplitr; · iexact HI
    isplitr; · iexact Hlev
    isplitl [C02]; · iexact C02
    isplitl [HO]; · iexact HO
    iexact P02
  iintro ⟨⟨%W12, HO⟩, P02, S2⟩
  ihave S2 := (Entails.of_eq (xPay_zero A c 2)) $$ S2
  iapply (step_wait A K c 2 2 (owe c 0) W12 (mayWait_none c _) rfl (by rfl)) $$ [C22 HO P22]
  · isplitr; · iexact HI
    isplitr; · iexact Hlev
    isplitl [C22]; · iexact C22
    isplitl [HO]; · iexact HO
    iexact P22
  iintro ⟨⟨%W13, HO⟩, P22, D2⟩
  ihave D2 := (Entails.of_eq (xPay_two A c 2)) $$ D2
  rw [wp_ret]
  imod (close_bar A K c) $$ [HatB] with ZB
  · isplitr; · iexact HI
    iexact HatB
  imod (close_four A K c 0) $$ [P00 P10 P20 P30] with Z0
  · isplitr; · iexact HI
    unfold ends
    isplitl [P00]; · iexact P00
    isplitl [P10]; · iexact P10
    isplitl [P20]; · iexact P20
    iexact P30
  imod (close_four A K c 1) $$ [P01 P11 P21 P31] with Z1
  · isplitr; · iexact HI
    unfold ends
    isplitl [P01]; · iexact P01
    isplitl [P11]; · iexact P11
    isplitl [P21]; · iexact P21
    iexact P31
  imod (close_four A K c 2) $$ [P02 P12 P22 P32] with Z2
  · isplitr; · iexact HI
    unfold ends
    isplitl [P02]; · iexact P02
    isplitl [P12]; · iexact P12
    isplitl [P22]; · iexact P22
    iexact P32
  imodintro
  iapply Hend
  unfold bodyPost
  rw [three]
  isplitl [ZB]; · iexact ZB
  isplitl [Z0 Z1 Z2]
  · isplitl [Z0]; · iexact Z0
    isplitl [Z1]; · iexact Z1
    iexact Z2
  isplitl [Hx Hwq Hk Hv Hwo]
  · unfold insPts
    isplitl [Hx]; · iexact Hx
    isplitl [Hwq]; · iexact Hwq
    isplitl [Hk]; · iexact Hk
    isplitl [Hv]; · iexact Hv
    iexact Hwo
  isplitl [Ho]; · iexact Ho
  isplitr [HO]
  · unfold scrAny
    isplitl [S0 S1 S2 Hown]
    · iexists (pbuf (A c)); iapply (part_join A c)
      isplitl [S0]; · iexact S0
      isplitl [S1]; · iexact S1
      isplitl [S2]; · iexact S2
      iexact Hown
    isplitl [G0 G1 G2]
    · iexists (rsAll A c); iapply (rs_join A c); unfold rsGot
      isplitl [G0]; · iexact G0
      isplitl [G1]; · iexact G1
      iexact G2
    isplitl [D0 D1 D2]
    · iexists (redOf A c); iapply (red_join A c)
      isplitl [D0]; · iexact D0
      isplitl [D1]; · iexact D1
      iexact D2
    iexists (agAll A c); iapply (ag_join A c); unfold agGot
    isplitl [E0]; · iexact E0
    isplitl [E1]; · iexact E1
    iexact E2
  iexists W13; iexact HO

end Parts

end Cert.KernelIdeal.Ring
-- ==== Proof.KRegion.lean ====
/-
# The kernel as a region of the program

What a device keeps for the kernel from the launch on, how its transfers' semaphores come under the protocol when the
kernel starts, and the kernel's record: it finds its operands in the windows' arrays and leaves `outOf` in the result's.
-/
module

public import proofs.«01_k».proof.Proof.KBody
public import proofs.«01_k».proof.Proof.Gen.KernelIdeal.Regions
public import proofs.«01_k».proof.Proof.Gen.KernelIdeal.Launch
public import proofs.«01_k».proof.Proof.Gen.KernelIdeal.Points
public import Idealize.ShloMosaic.Lib.Pipeline.RegionTalk

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The operands as the host's part of the program leaves them on device `c`. -/
def ins (c : Dev nD) : Ins F := ⟨V1 m c main_arg0, V1 m c main_arg1, V1 m c main_v15, V1 m c main_v16, V1 m c main_arg4⟩

/-! ## What the device keeps for the kernel -/

/-- Four summands, one by one. -/
theorem four {M : Type} [URA M] (Φ : Fin 4 → sProp M) : (bigSep Finset.univ Φ : sProp M) = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl

/-- The kernel's own semaphores: number and family of a transfer. -/
abbrev osem : Fin 3 × Fin 4 → SemLoc sig := fun p => .dma (xsem p.2 p.1)

/-- The kernel's own semaphores at zero, sorted by transfer. -/
theorem ownSems_eq (c : Dev nD) : (Pipeline.ownSems0 osem c : sProp 𝕄) = bigSep Finset.univ (zeros (F := F) c) := by
  unfold Pipeline.ownSems0
  rw [bigSep_univ_prod]
  exact bigSep_congr fun i _ => four _

/-- The right to bring transfer semaphores number `i` under the protocol. -/
def keys (c : Dev nD) (i : Fin 3) : sProp 𝕄 :=
  iprop(openTok ER (xcell 0 c i) ∗ openTok ER (xcell 1 c i) ∗ openTok ER (xcell 2 c i) ∗ openTok ER (xcell 3 c i))

/-- What the launch hands the device, the credit apart, -/
def ghost (K : GSem nD τ sig → ℕ) (c : Dev nD) : sProp 𝕄 :=
  iprop(invs (ins m) K ∗ atPos ER (barCell c) 0 ∅ 0 ∗ bigSep Finset.univ (keys (F := F) c) ∗ bigSep Finset.univ (toks (F := F) c))
/-- the credit, -/
def credit (c : Dev nD) : sProp 𝕄 := iprop(cred (tallyAt (barCell c) () 3) ∗ bigSep Finset.univ (creds (F := F) c))
/-- and both. -/
def Tk (c : Dev nD) : sProp 𝕄 := iprop((∃ K, ghost m K c) ∗ credit c)
/-- The same with the transfers' semaphores under the protocol. -/
def Xk (c : Dev nD) : sProp 𝕄 :=
  iprop((∃ K, invs (ins m) K ∗ atPos ER (barCell c) 0 ∅ 0 ∗ bigSep Finset.univ (spots (F := F) c) ∗ bigSep Finset.univ (marks (F := F) c)
      ∗ bigSep Finset.univ (toks (F := F) c)) ∗ credit c ∗ levAts L lv)
/-- What the device keeps after the kernel: its barrier at zero. -/
def Yk (c : Dev nD) : sProp 𝕄 := semVal (barCell c) 0

/-- A transfer semaphore at zero comes under the protocol. -/
theorem open_x (K : GSem nD τ sig → ℕ) (c : Dev nD) (a : Fin 4) (i : Fin 3) :
    iprop(invs (ins m) K ∗ openTok ER (xcell a c i) ∗ semVal (xcell a c i) 0)
      ⊢ (|={Set.univ}=> (atPos ER (xcell a c i) 0 ∅ 0 ∗ reached ER (xcell a c i) 0) : sProp 𝕄) := by
  iintro ⟨#HI, Ho, Hv⟩
  iapply (Rounds.cell_open ER (sched (ins m)) (g := xcell a c i) (Set.mem_univ (K (xcell a c i))))
  isplitr; · iapply (inv_x (ins m) K a c i); iexact HI
  isplitl [Ho] <;> iassumption

/-- So do the four of one number. -/
theorem open_four (K : GSem nD τ sig → ℕ) (c : Dev nD) (i : Fin 3) :
    iprop(invs (ins m) K ∗ keys (F := F) c i ∗ zeros (F := F) c i) ⊢ (|={Set.univ}=> (spots (F := F) c i ∗ marks (F := F) c i) : sProp 𝕄) := by
  unfold keys zeros spots marks
  iintro ⟨#HI, ⟨O0, O1, O2, O3⟩, Z0, Z1, Z2, Z3⟩
  imod (open_x m K c 0 i) $$ [O0 Z0] with ⟨P0, R0⟩
  · isplitr; · iexact HI
    isplitl [O0] <;> iassumption
  imod (open_x m K c 1 i) $$ [O1 Z1] with ⟨P1, R1⟩
  · isplitr; · iexact HI
    isplitl [O1] <;> iassumption
  imod (open_x m K c 2 i) $$ [O2 Z2] with ⟨P2, R2⟩
  · isplitr; · iexact HI
    isplitl [O2] <;> iassumption
  imod (open_x m K c 3 i) $$ [O3 Z3] with ⟨P3, R3⟩
  · isplitr; · iexact HI
    isplitl [O3] <;> iassumption
  imodintro
  isplitl [P0 P1 P2 P3]
  · isplitl [P0]; · iexact P0
    isplitl [P1]; · iexact P1
    isplitl [P2] <;> iassumption
  isplitl [R0]; · iexact R0
  isplitl [R1]; · iexact R1
  isplitl [R2] <;> iassumption

/-- When the kernel starts, all its semaphores come under the protocol. -/
theorem hopen (c : Dev nD) : iprop(Tk m c ∗ Pipeline.ownSems0 osem c ∗ levAts L lv) ⊢ (|={Set.univ}=> Xk m c : sProp 𝕄) := by
  rw [ownSems_eq]
  unfold Tk Xk ghost
  rw [three (keys (F := F) c), three (zeros (F := F) c), three (spots (F := F) c), three (marks (F := F) c)]
  iintro ⟨⟨⟨%K, #HI, Hat, ⟨K0, K1, K2⟩, Ht⟩, Hcr⟩, ⟨Z0, Z1, Z2⟩, #Hlev⟩
  imod (open_four m K c 0) $$ [K0 Z0] with ⟨P0, R0⟩
  · isplitr; · iexact HI
    isplitl [K0] <;> iassumption
  imod (open_four m K c 1) $$ [K1 Z1] with ⟨P1, R1⟩
  · isplitr; · iexact HI
    isplitl [K1] <;> iassumption
  imod (open_four m K c 2) $$ [K2 Z2] with ⟨P2, R2⟩
  · isplitr; · iexact HI
    isplitl [K2] <;> iassumption
  imodintro
  isplitl [Hat Ht P0 P1 P2 R0 R1 R2]
  · iexists K
    isplitr; · iexact HI
    isplitl [Hat]; · iexact Hat
    isplitl [P0 P1 P2]
    · isplitl [P0]; · iexact P0
      isplitl [P1] <;> iassumption
    isplitl [R0 R1 R2]
    · isplitl [R0]; · iexact R0
      isplitl [R1] <;> iassumption
    iexact Ht
  isplitl [Hcr]; · iexact Hcr
  iexact Hlev

/-! ## The region's data -/

/-- What the staging buffers hold after the body, at operands `I` and result `o`. -/
def stagedAt (I : Ins F) (o : Vec F S2x256x512 .f32) : (w : Fin 6) → (spec0 w).block.Idx → Elt F (spec0 w).elt
  | 0 => I.x
  | 1 => I.wq
  | 2 => I.k
  | 3 => I.v
  | 4 => I.wo
  | 5 => o
  | ⟨_ + 6, h⟩ => absurd h (Nat.not_lt.2 (Nat.le_add_left _ _))
/-- The result's staging buffer holds the result. -/
theorem stagedAt_5 (I : Ins F) (o : Vec F S2x256x512 .f32) : stagedAt I o 5 = o := rfl

/-- The windows' arrays at the operands, the result's staging at `outOf`, the debt paid at the one point. -/
def dat (c : Dev nD) : Dat τ (Elt F) Unit ℕ UU ℕ cfg0 c where
  A w := V1 m c (Pipeline.arrRef spec0 w)
  after w _ := stagedAt (ins m c) (outOf (ins m) c) w
  Φ t := if t.val = 0 then iprop(Xk m c ∗ scrAny (F := F) c ∗ ∃ r, prngReg c r)
    else iprop(Yk (F := F) c ∗ bigSep Finset.univ (zeros (F := F) c) ∗ scrAny (F := F) c ∗ ∃ r, prngReg c r)
  q _ := fullShare
  owed t := if t.val = 0 then O₀ c else 0

/-- The same, as the one region of the program. -/
def pdats : (p : Fin 1) → (c : Dev nD) → Dat τ (Elt F) Unit ℕ UU ℕ (cfgs p) c
  | 0 => dat m

/-- Before the point the device owes its raises, -/
theorem owed_first (c : Dev nD) : (dat (F := F) m c).owed t0_0.castSucc = O₀ c := by
  show (if (t0_0.castSucc : Fin (cfg0.N + 1)).val = 0 then O₀ c else 0) = O₀ c; exact if_pos rfl
/-- which is what it owes when the kernel starts, -/
theorem owed_zero (c : Dev nD) : (pdats (F := F) m 0 c).owed 0 = O₀ c := by
  show (if ((0 : Fin (cfg0.N + 1)).val = 0) then O₀ c else 0) = O₀ c; exact if_pos rfl
/-- and at the end it owes nothing. -/
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-- Fetching the window of `x` fetches the whole array. -/
theorem fetched_0 (f : main_arg0.ty.Contents (Elt F)) (d : (win0_0 : Pipeline.Window sig grid0).block.Idx → Elt F win0_0.elt) :
    win0_0.fill (grid0.coords t0_0) d ((win0_0.blk t0_0).view.read (Elt F) f) = f := by
  have hz : (fun a => win0_0.index t0_0 a * main_arg0.ty.shape.size a) = fun _ => 0 := funext fun a => Nat.zero_mul _
  exact Memref.read_access_unit_zero (Elt F) main_arg0 hz (fun a => Nat.le_of_eq (by rw [congrFun hz a, Nat.zero_add])) f
/-- Before the point its staging buffer holds `x`. -/
theorem before_0 (c : Dev nD) (t : Fin cfg0.N) (d) : (dat m c).before 0 t d = V1 m c main_arg0 := by
  obtain rfl := fin_N0 t
  exact (if_pos (fetch0_0 t0_0)).trans (fetched_0 (V1 m c main_arg0) d)
/-- Fetching the window of the query weights fetches the whole array. -/
theorem fetched_1 (f : main_arg1.ty.Contents (Elt F)) (d : (win0_1 : Pipeline.Window sig grid0).block.Idx → Elt F win0_1.elt) :
    win0_1.fill (grid0.coords t0_0) d ((win0_1.blk t0_0).view.read (Elt F) f) = f := by
  have hz : (fun a => win0_1.index t0_0 a * main_arg1.ty.shape.size a) = fun _ => 0 := funext fun a => Nat.zero_mul _
  exact Memref.read_access_unit_zero (Elt F) main_arg1 hz (fun a => Nat.le_of_eq (by rw [congrFun hz a, Nat.zero_add])) f
/-- Before the point its staging buffer holds the query weights. -/
theorem before_1 (c : Dev nD) (t : Fin cfg0.N) (d) : (dat m c).before 1 t d = V1 m c main_arg1 := by
  obtain rfl := fin_N0 t
  exact (if_pos (fetch0_1 t0_0)).trans (fetched_1 (V1 m c main_arg1) d)
/-- Fetching the window of the keys fetches the whole array. -/
theorem fetched_2 (f : main_v15.ty.Contents (Elt F)) (d : (win0_2 : Pipeline.Window sig grid0).block.Idx → Elt F win0_2.elt) :
    win0_2.fill (grid0.coords t0_0) d ((win0_2.blk t0_0).view.read (Elt F) f) = f := by
  have hz : (fun a => win0_2.index t0_0 a * main_v15.ty.shape.size a) = fun _ => 0 := funext fun a => Nat.zero_mul _
  exact Memref.read_access_unit_zero (Elt F) main_v15 hz (fun a => Nat.le_of_eq (by rw [congrFun hz a, Nat.zero_add])) f
/-- Before the point its staging buffer holds the keys. -/
theorem before_2 (c : Dev nD) (t : Fin cfg0.N) (d) : (dat m c).before 2 t d = V1 m c main_v15 := by
  obtain rfl := fin_N0 t
  exact (if_pos (fetch0_2 t0_0)).trans (fetched_2 (V1 m c main_v15) d)
/-- Fetching the window of the values fetches the whole array. -/
theorem fetched_3 (f : main_v16.ty.Contents (Elt F)) (d : (win0_3 : Pipeline.Window sig grid0).block.Idx → Elt F win0_3.elt) :
    win0_3.fill (grid0.coords t0_0) d ((win0_3.blk t0_0).view.read (Elt F) f) = f := by
  have hz : (fun a => win0_3.index t0_0 a * main_v16.ty.shape.size a) = fun _ => 0 := funext fun a => Nat.zero_mul _
  exact Memref.read_access_unit_zero (Elt F) main_v16 hz (fun a => Nat.le_of_eq (by rw [congrFun hz a, Nat.zero_add])) f
/-- Before the point its staging buffer holds the values. -/
theorem before_3 (c : Dev nD) (t : Fin cfg0.N) (d) : (dat m c).before 3 t d = V1 m c main_v16 := by
  obtain rfl := fin_N0 t
  exact (if_pos (fetch0_3 t0_0)).trans (fetched_3 (V1 m c main_v16) d)
/-- Fetching the window of the output weights fetches the whole array. -/
theorem fetched_4 (f : main_arg4.ty.Contents (Elt F)) (d : (win0_4 : Pipeline.Window sig grid0).block.Idx → Elt F win0_4.elt) :
    win0_4.fill (grid0.coords t0_0) d ((win0_4.blk t0_0).view.read (Elt F) f) = f := by
  have hz : (fun a => win0_4.index t0_0 a * main_arg4.ty.shape.size a) = fun _ => 0 := funext fun a => Nat.zero_mul _
  exact Memref.read_access_unit_zero (Elt F) main_arg4 hz (fun a => Nat.le_of_eq (by rw [congrFun hz a, Nat.zero_add])) f
/-- Before the point its staging buffer holds the output weights. -/
theorem before_4 (c : Dev nD) (t : Fin cfg0.N) (d) : (dat m c).before 4 t d = V1 m c main_arg4 := by
  obtain rfl := fin_N0 t
  exact (if_pos (fetch0_4 t0_0)).trans (fetched_4 (V1 m c main_arg4) d)

/-- Writing the result's window back writes the whole array. -/
theorem flushed_5 (f w : main_v17.ty.Contents (Elt F)) :
    (win0_5.blk t0_0).view.write (Elt F) f (win0_5.cut (grid0.coords t0_0) w) Finset.univ = w := by
  have hz : (fun a => win0_5.index t0_0 a * main_v17.ty.shape.size a) = fun _ => 0 := funext fun a => Nat.zero_mul _
  exact Memref.write_access_unit_zero_univ (Elt F) main_v17 hz (fun a => Nat.le_of_eq (by rw [congrFun hz a, Nat.zero_add])) f w
/-- What a window's array holds after the one point, if the window is written back, -/
theorem arr_written {c : Dev nD} (d : Dat τ (Elt F) Unit ℕ UU ℕ cfg0 c) (w : Fin cfg0.W) (hf : (cfg0.win w).flush t0_0 = true) :
    d.arrAt w cfg0.N = ((cfg0.win w).blk t0_0).view.write (Elt F) (d.A w) (d.flushed w t0_0) Finset.univ := by
  have h0 : 0 < cfg0.N := by rw [show cfg0.N = 1 from N_0]; decide
  rw [show cfg0.N = 0 + 1 from N_0, Dat.arrAt, dif_pos h0]
  exact if_pos hf
/-- and if not. -/
theorem arr_kept {c : Dev nD} (d : Dat τ (Elt F) Unit ℕ UU ℕ cfg0 c) (w : Fin cfg0.W) (hf : (cfg0.win w).flush t0_0 = false) :
    d.arrAt w cfg0.N = d.A w := by
  have h0 : 0 < cfg0.N := by rw [show cfg0.N = 1 from N_0]; decide
  rw [show cfg0.N = 0 + 1 from N_0, Dat.arrAt, dif_pos h0]
  exact if_neg (fun h => Bool.false_ne_true (hf.symm.trans h))
/-- After the point the result's staging buffer holds `outOf`. -/
theorem after_5 (c : Dev nD) : (dat m c).after 5 t0_0 = outOf (ins m) c := by
  dsimp only [dat]
  exact stagedAt_5 (ins m c) (outOf (ins m) c)
/-- The result's array after the write-back is what its staging buffer held. -/
theorem written_5 {c : Dev nD} (d : Dat τ (Elt F) Unit ℕ UU ℕ cfg0 c) (w : main_v17.ty.Contents (Elt F)) (h : d.after 5 t0_0 = w) :
    d.arrAt 5 cfg0.N = w := by
  subst h
  exact (arr_written d 5 (flush0_5 t0_0)).trans (flushed_5 (d.A 5) (d.after 5 t0_0))
/-- The result's array after the write-back. -/
theorem arr_out (c : Dev nD) : (dat m c).arrAt 5 cfg0.N = outOf (ins m) c := written_5 _ _ (after_5 m c)
/-- The array of `x` is as it was after the kernel. -/
theorem arr_in_0 (c : Dev nD) : (dat m c).arrAt 0 cfg0.N = V1 m c main_arg0 :=
  arr_kept (dat m c) 0 (by decide +kernel : (win0_0 : Pipeline.Window sig grid0).flush t0_0 = false)
/-- The array of the query weights is as it was after the kernel. -/
theorem arr_in_1 (c : Dev nD) : (dat m c).arrAt 1 cfg0.N = V1 m c main_arg1 :=
  arr_kept (dat m c) 1 (by decide +kernel : (win0_1 : Pipeline.Window sig grid0).flush t0_0 = false)
/-- The array of the keys is as it was after the kernel. -/
theorem arr_in_2 (c : Dev nD) : (dat m c).arrAt 2 cfg0.N = V1 m c main_v15 :=
  arr_kept (dat m c) 2 (by decide +kernel : (win0_2 : Pipeline.Window sig grid0).flush t0_0 = false)
/-- The array of the values is as it was after the kernel. -/
theorem arr_in_3 (c : Dev nD) : (dat m c).arrAt 3 cfg0.N = V1 m c main_v16 :=
  arr_kept (dat m c) 3 (by decide +kernel : (win0_3 : Pipeline.Window sig grid0).flush t0_0 = false)
/-- The array of the output weights is as it was after the kernel. -/
theorem arr_in_4 (c : Dev nD) : (dat m c).arrAt 4 cfg0.N = V1 m c main_arg4 :=
  arr_kept (dat m c) 4 (by decide +kernel : (win0_4 : Pipeline.Window sig grid0).flush t0_0 = false)

/-! ## The kernel's point -/

/-- The debt at a point, taken out of the region's bookkeeping, -/
theorem owes_in (c : Dev nD) (t : Fin (cfg0.N + 1)) (O : CellTallies nD τ sig Unit) (h : (dat (F := F) m c).owed t = O) :
    ((dat m c).owesAt () t : sProp 𝕄) ⊢ iprop(∃ W, owes (c : Thread nD τ) O W) := by
  subst h
  unfold Dat.owesAt Pipeline.owesWithin
  iintro ⟨%W, -, H⟩
  iexists W; iexact H
/-- and put back. -/
theorem owes_out (c : Dev nD) (t : Fin (cfg0.N + 1)) (O : CellTallies nD τ sig Unit) (h : (dat (F := F) m c).owed t = O) (W : Waits sig Unit) :
    (owes (c : Thread nD τ) O W : sProp 𝕄) ⊢ ((dat m c).owesAt () t : sProp 𝕄) := by
  subst h
  unfold Dat.owesAt Pipeline.owesWithin Dat.bound
  iintro H
  iexists W
  isplitr; · ipureintro; exact fun _ _ => Or.inl trivial
  iexact H

/-- A whole buffer owned at given contents. -/
theorem owns_to (c : Dev nD) (b : Ref sig .tc) (X : b.ty.Contents (Elt F)) :
    (owns (c : Thread nD τ) (Memref.whole b) fullShare X : sProp 𝕄) ⊢ pt c b X := by
  rw [owns_whole_eq]
  iintro ⟨%f, %h, H⟩
  subst h; iexact H
/-- And back. -/
theorem owns_of (c : Dev nD) (b : Ref sig .tc) (X : b.ty.Contents (Elt F)) :
    (pt c b X : sProp 𝕄) ⊢ owns (c : Thread nD τ) (Memref.whole b) fullShare X := by
  rw [owns_whole_eq]
  iintro H
  iexists X
  isplitr; · ipureintro; rfl
  iexact H

/-- The staging buffer of `x` is as it was after the point. -/
theorem after_0 (c : Dev nD) : (dat m c).after 0 t0_0 = V1 m c main_arg0 := by dsimp only [dat]; rfl
/-- The staging buffer of the query weights is as it was after the point. -/
theorem after_1 (c : Dev nD) : (dat m c).after 1 t0_0 = V1 m c main_arg1 := by dsimp only [dat]; rfl
/-- The staging buffer of the keys is as it was after the point. -/
theorem after_2 (c : Dev nD) : (dat m c).after 2 t0_0 = V1 m c main_v15 := by dsimp only [dat]; rfl
/-- The staging buffer of the values is as it was after the point. -/
theorem after_3 (c : Dev nD) : (dat m c).after 3 t0_0 = V1 m c main_v16 := by dsimp only [dat]; rfl
/-- The staging buffer of the output weights is as it was after the point. -/
theorem after_4 (c : Dev nD) : (dat m c).after 4 t0_0 = V1 m c main_arg4 := by dsimp only [dat]; rfl

/-- The operands' staging buffers, as the windows own them. -/
def ownIns (c : Dev nD) (I : Ins F) : sProp 𝕄 :=
  iprop(owns (c : Thread nD τ) xM fullShare I.x ∗ owns (c : Thread nD τ) wqM fullShare I.wq ∗ owns (c : Thread nD τ) kM fullShare I.k
    ∗ owns (c : Thread nD τ) vM fullShare I.v ∗ owns (c : Thread nD τ) woM fullShare I.wo)
/-- The operands, from the windows' terms to the body's, -/
theorem ownIns_to (c : Dev nD) (I : Ins F) : (ownIns c I : sProp 𝕄) ⊢ insPts c I := by
  unfold ownIns insPts
  iintro ⟨H0, H1, H2, H3, H4⟩
  isplitl [H0]; · iapply (owns_to c cc0_stg0_0 _); iexact H0
  isplitl [H1]; · iapply (owns_to c cc0_stg1_0 _); iexact H1
  isplitl [H2]; · iapply (owns_to c cc0_stg2_0 _); iexact H2
  isplitl [H3]; · iapply (owns_to c cc0_stg3_0 _); iexact H3
  iapply (owns_to c cc0_stg4_0 _); iexact H4
/-- and back. -/
theorem ownIns_of (c : Dev nD) (I : Ins F) : (insPts c I : sProp 𝕄) ⊢ ownIns c I := by
  unfold ownIns insPts
  iintro ⟨H0, H1, H2, H3, H4⟩
  isplitl [H0]; · iapply (owns_of c cc0_stg0_0 _); iexact H0
  isplitl [H1]; · iapply (owns_of c cc0_stg1_0 _); iexact H1
  isplitl [H2]; · iapply (owns_of c cc0_stg2_0 _); iexact H2
  isplitl [H3]; · iapply (owns_of c cc0_stg3_0 _); iexact H3
  iapply (owns_of c cc0_stg4_0 _); iexact H4

/-- What the point starts from, in the region's terms, -/
def pointPre (c : Dev nD) : sProp 𝕄 :=
  iprop((Xk m c ∗ scrAny (F := F) c ∗ ∃ r, prngReg c r) ∗ (dat m c).owesAt () t0_0.castSucc ∗ ownIns c (ins m c)
    ∗ ∃ X, owns (c : Thread nD τ) outM fullShare X)
/-- and what it leaves. -/
def pointPost (c : Dev nD) : sProp 𝕄 :=
  iprop((Yk (F := F) c ∗ bigSep Finset.univ (zeros (F := F) c) ∗ scrAny (F := F) c ∗ ∃ r, prngReg c r) ∗ (dat m c).owesAt () t0_0.succ
    ∗ ownIns c (ins m c) ∗ owns (c : Thread nD τ) outM fullShare (outOf (ins m) c))

/-- The body, in the region's terms. -/
theorem point (c : Dev nD) : (pointPre m c : sProp 𝕄)
    ⊢ wp frame (wpE (defs₀ (F := F)) 𝒱₀ (c : Thread nD τ) none) Set.univ (kbody (F := F)) fun _ => pointPost m c := by
  unfold pointPre Xk credit
  iintro ⟨⟨⟨⟨%K, HI, Hat, HP, HR, HT⟩, ⟨HcB, HcX⟩, Hlev⟩, Hscr, Hreg⟩, HO, Hin, ⟨%d5, H5⟩⟩
  ihave HO' := (owes_in m c _ (O₀ c) (owed_first m c)) $$ HO
  icases HO' with ⟨%W, HO⟩
  iapply (body_run (ins m) K c W _)
  isplitl [HI Hat HP HR HT HcB HcX Hlev Hscr HO Hin H5]
  · unfold bodyPre
    isplitl [HI]; · iexact HI
    isplitl [Hlev]; · iexact Hlev
    isplitl [Hat]; · iexact Hat
    isplitl [HcB]; · iexact HcB
    isplitl [HT]; · iexact HT
    isplitl [HP]; · iexact HP
    isplitl [HR]; · iexact HR
    isplitl [HcX]; · iexact HcX
    isplitl [Hin]; · iapply (ownIns_to c (ins m c)); iexact Hin
    isplitl [H5]; · iexists d5; iapply (owns_to c cc0_stg5_0 _); iexact H5
    isplitl [Hscr]; · iexact Hscr
    iexact HO
  unfold bodyPost pointPost Yk
  iintro ⟨Hb, Hz, Hin, H5, Hscr, ⟨%W', HO⟩⟩
  isplitl [Hb Hz Hscr Hreg]
  · isplitl [Hb]; · iexact Hb
    isplitl [Hz]; · iexact Hz
    isplitl [Hscr]; · iexact Hscr
    iexact Hreg
  isplitl [HO]; · iapply (owes_out m c t0_0.succ 0 (owed_last m c) W'); iexact HO
  isplitl [Hin]; · iapply (ownIns_of c (ins m c)); iexact Hin
  iapply (owns_of c cc0_stg5_0 _); iexact H5

/-- The region's state before the point is what the point starts from, -/
theorem point_in (c : Dev nD) :
    iprop((dat m c).Φ t0_0.castSucc ∗ (dat m c).owesAt () t0_0.castSucc
        ∗ (∃ d, owns (c : Thread nD τ) xM fullShare ((dat m c).before 0 t0_0 d)) ∗ (∃ d, owns (c : Thread nD τ) wqM fullShare ((dat m c).before 1 t0_0 d))
        ∗ (∃ d, owns (c : Thread nD τ) kM fullShare ((dat m c).before 2 t0_0 d)) ∗ (∃ d, owns (c : Thread nD τ) vM fullShare ((dat m c).before 3 t0_0 d))
        ∗ (∃ d, owns (c : Thread nD τ) woM fullShare ((dat m c).before 4 t0_0 d)) ∗ (∃ d, owns (c : Thread nD τ) outM fullShare ((dat m c).before 5 t0_0 d)))
      ⊢ (pointPre m c : sProp 𝕄) := by
  rw [show (dat m c).Φ t0_0.castSucc = iprop(Xk m c ∗ scrAny (F := F) c ∗ ∃ r, prngReg c r) from rfl]
  unfold pointPre ownIns
  iintro ⟨HX, HO, ⟨%d0, H0⟩, ⟨%d1, H1⟩, ⟨%d2, H2⟩, ⟨%d3, H3⟩, ⟨%d4, H4⟩, ⟨%d5, H5⟩⟩
  rw [before_0, before_1, before_2, before_3, before_4]
  isplitl [HX]; · iexact HX
  isplitl [HO]; · iexact HO
  isplitr [H5]
  · isplitl [H0]; · iexact H0
    isplitl [H1]; · iexact H1
    isplitl [H2]; · iexact H2
    isplitl [H3]; · iexact H3
    iexact H4
  iexists _; iexact H5

/-- and what the point leaves is the region's state after it. -/
theorem point_out (c : Dev nD) : (pointPost m c : sProp 𝕄)
    ⊢ iprop((dat m c).Φ t0_0.succ ∗ (dat m c).owesAt () t0_0.succ
        ∗ owns (c : Thread nD τ) xM fullShare ((dat m c).after 0 t0_0) ∗ owns (c : Thread nD τ) wqM fullShare ((dat m c).after 1 t0_0)
        ∗ owns (c : Thread nD τ) kM fullShare ((dat m c).after 2 t0_0) ∗ owns (c : Thread nD τ) vM fullShare ((dat m c).after 3 t0_0)
        ∗ owns (c : Thread nD τ) woM fullShare ((dat m c).after 4 t0_0) ∗ owns (c : Thread nD τ) outM fullShare ((dat m c).after 5 t0_0)) := by
  rw [show (dat m c).Φ t0_0.succ = iprop(Yk (F := F) c ∗ bigSep Finset.univ (zeros (F := F) c) ∗ scrAny (F := F) c ∗ ∃ r, prngReg c r) from rfl]
  unfold pointPost ownIns
  rw [after_0, after_1, after_2, after_3, after_4, after_5]
  iintro ⟨HX, HO, ⟨H0, H1, H2, H3, H4⟩, H5⟩
  isplitl [HX]; · iexact HX
  isplitl [HO]; · iexact HO
  isplitl [H0]; · iexact H0
  isplitl [H1]; · iexact H1
  isplitl [H2]; · iexact H2
  isplitl [H3]; · iexact H3
  isplitl [H4]; · iexact H4
  iexact H5

/-- The body does what the region's record says. -/
theorem obligation (c : Dev nD) : BodyObligation (dat (F := F) m c) defs₀ 𝒱₀ () Set.univ := fun t => by
  obtain rfl := fin_N0 t
  rw [bigSep_W0, bigSep_W0]
  exact BIBase.Entails.trans (point_in m c) (BIBase.Entails.trans (point m c) (wp_mono _ _ _ fun _ => point_out m c))

/-! ## The region's record -/

/-- The device's buffers after the kernel. -/
abbrev V₂ (c : Dev nD) : Valuation τ sig (Elt F) := Function.update (V1 m c) main_v17 (outOf (ins m) c)

/-- The kernel changes no buffer but the result's, -/
theorem V₂_of (c : Dev nD) (r : Ref sig .tc) (h : r ≠ main_v17) : V₂ m c r = V1 m c r :=
  Function.update_of_ne (StableHlo.devRef_ne_of_ne h) _ _
/-- which holds `outOf`. -/
theorem V₂_out (c : Dev nD) : V₂ m c main_v17 = outOf (ins m) c := Function.update_self _ _ _

/-- The facts of the windows that the launch asks for. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The windows' own semaphores are below every debt, -/
theorem stage_low (w : Fin 6) (s : Fin (spec0 w).nbuf) (c : Dev nD) : lv ((c : Thread nD τ), .dma ((spec0 w).sem s)) () ≤ 0 := by
  revert w s c; decide

/-- and every debt is on a tallied semaphore, above them. -/
theorem owed_high (c : Dev nD) (t : Fin (cfg0.N + 1)) (g : GSem nD τ sig) (i : Unit) (h : 0 < (dat (F := F) m c).owed t g i) :
    i ∈ L g ∧ (0 : ℕ) < lv g i := by
  have e : (dat (F := F) m c).owed t = if t.val = 0 then O₀ c else 0 := rfl
  rw [e] at h
  split at h
  · obtain ⟨k, hk, hd⟩ := owe_cell c 9 g i h
    obtain ⟨hL, hl⟩ := debt_cell c k g i hd
    refine ⟨hL, lt_of_lt_of_le ?_ hl⟩
    split
    · decide
    · split <;> decide
  · exact absurd h (Nat.lt_irrefl 0)

/-- What the kernel finds at its start is the region's first state, -/
theorem hin (c : Dev nD) : iprop(Pipeline.scopedRest spec0 c ∗ (∃ r, prngReg c r) ∗ StableHlo.held (c.tc : Thread nD τ) ∅ (V1 m c) ∗ Xk m c)
    ⊢ ((dat m c).Φ 0 : sProp 𝕄) := by
  rw [show (dat m c).Φ 0 = iprop(Xk m c ∗ scrAny (F := F) c ∗ ∃ r, prngReg c r) from rfl, scopedRest0_eq]
  unfold scrAny
  iintro ⟨Hs, Hp, -, HX⟩
  isplitl [HX]; · iexact HX
  isplitl [Hs]; · iexact Hs
  iexact Hp

/-- and the region's last state is what it leaves. -/
theorem hout (c : Dev nD) : ((dat m c).Φ (Fin.last cfg0.N) : sProp 𝕄)
    ⊢ iprop(Pipeline.scopedRest spec0 c ∗ (∃ r, prngReg c r) ∗ StableHlo.held (c.tc : Thread nD τ) ∅ (V₂ m c) ∗ Pipeline.ownSems0 osem c ∗ Yk c) := by
  rw [show (dat m c).Φ (Fin.last cfg0.N) = iprop(Yk (F := F) c ∗ bigSep Finset.univ (zeros (F := F) c) ∗ scrAny (F := F) c ∗ ∃ r, prngReg c r) from rfl,
    scopedRest0_eq, ownSems_eq]
  unfold scrAny StableHlo.held
  rw [bigSep_empty]
  iintro ⟨HY, Hz, Hs, Hp⟩
  isplitl [Hs]; · iexact Hs
  isplitl [Hp]; · iexact Hp
  isplitr; · iempintro
  isplitl [Hz]; · iexact Hz
  iexact HY

/-- The windows' arrays before the kernel, -/
theorem arr_first (c : Dev nD) (w : Fin 6) : (dat m c).arrAt w 0 = V1 m c (Proc.devRef .tc (Pipeline.arrRef spec0 w)) := rfl
/-- and after it. -/
theorem arr_last (c : Dev nD) (w : Fin 6) : (dat m c).arrAt w cfg0.N = V₂ m c (Proc.devRef .tc (Pipeline.arrRef spec0 w)) :=
  match w with
  | 0 => (arr_in_0 m c).trans (V₂_of m c main_arg0 (by decide)).symm
  | 1 => (arr_in_1 m c).trans (V₂_of m c main_arg1 (by decide)).symm
  | 2 => (arr_in_2 m c).trans (V₂_of m c main_v15 (by decide)).symm
  | 3 => (arr_in_3 m c).trans (V₂_of m c main_v16 (by decide)).symm
  | 4 => (arr_in_4 m c).trans (V₂_of m c main_arg4 (by decide)).symm
  | 5 => (arr_out m c).trans (V₂_out m c).symm
  | ⟨_ + 6, h⟩ => absurd h (Nat.not_lt.2 (Nat.le_add_left _ _))

/-- Every window's array is held whole. -/
theorem share_full (c : Dev nD) (w : Fin 6) : (dat (F := F) m c).share w = fullShare := by
  unfold Dat.share; split <;> rfl

/-- The buffers that outlive the kernel and are no window's array. -/
abbrev others : Finset (DevRef τ sig) := Pipeline.ucRefs τ sig \ Pipeline.arrRefs (τ := τ) spec0

/-- No other buffer changes. -/
theorem rest_same (c : Dev nD) : ∀ b ∈ others \ (∅ : Finset (DevRef τ sig)), V₂ m c b = V1 m c b := by
  intro b hb
  refine Function.update_of_ne ?_ _ _
  rintro rfl
  exact (Finset.mem_sdiff.mp (Finset.mem_sdiff.mp hb).1).2 (by decide)

set_option backward.isDefEq.respectTransparency.types false in
/-- The kernel's record as a region: from `Tk` to `Yk`, with `outOf` left in the result's array. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kit rfl (fun c => (obligation m c).loose)
    (fun _ => 0) O₀ (fun c => (owed_zero m c).trans (zero_add _).symm) (owed_last m) (fun _ => rfl) (fun c w => share_full m c w)
    (V1 m) (V₂ m) (rest_same m)
    (Tk m) Yk (Xk m) Yk (hopen m) (hin m) (hout m)
    (fun c => by iintro H; imodintro; iexact H)
    (fun _ => 0)
    ⟨fun c w s => by rw [L_tc]; exact Finset.mem_singleton_self _, fun c w s => stage_low w s c, fun c t g i h => owed_high m c t g i h⟩
    (fun _ => iprop(emp))
    (fun c w => arr_first m c w) (fun c w => arr_last m c w)

end Cert.KernelIdeal.Ring
-- ==== Proof.KLaunch.lean ====
/-
# The launch

The cells of the protocol and every raise's token are made at launch, each token goes to the device that makes the raise,
and the whole program runs: whatever the schedule, it ends, with the arguments as launched, `outOf` in the result and
every counter at zero.
-/
module

public import proofs.«01_k».proof.Proof.KRegion

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- Two devices' barriers are two semaphores. -/
theorem bar_inj {c c' : Dev nD} (h : barCell c = barCell c') : c = c' := congrArg (fun g : GSem nD τ sig => g.1.1) h
/-- A transfer semaphore tells its family, its device and its number. -/
theorem x_inj {a a' : Fin 4} {c c' : Dev nD} {i i' : Fin 3} (h : xcell a c i = xcell a' c' i') : a = a' ∧ c = c' ∧ i = i' := by
  have hs : xsem a i = xsem a' i' := by
    have h2 : (SemLoc.dma (xsem a i) : SemLoc sig) = .dma (xsem a' i') := congrArg Prod.snd h
    injection h2
  exact ⟨by rw [← famOf_xsem a i, ← famOf_xsem a' i', hs], congrArg (fun g : GSem nD τ sig => g.1.1) h,
    by rw [← idxOf_xsem a i, ← idxOf_xsem a' i', hs]⟩
/-- A barrier is no transfer semaphore. -/
theorem bar_ne_x {a : Fin 4} {c c' : Dev nD} {i : Fin 3} (h : barCell c = xcell a c' i) : False := by
  have h2 : (SemLoc.reg barS : SemLoc sig) = .dma (xsem a i) := congrArg Prod.snd h
  cases h2

/-- The barriers, one for each device. -/
def barEmb : Dev nD ↪ GSem nD τ sig := ⟨fun c => barCell c, fun _ _ h => bar_inj h⟩
/-- The transfers' semaphores, by family, device and number. -/
def xEmb : Fin 4 × Dev nD × Fin 3 ↪ GSem nD τ sig :=
  ⟨fun p => xcell p.1 p.2.1 p.2.2, fun _ _ h => by obtain ⟨h1, h2, h3⟩ := x_inj h; exact Prod.ext h1 (Prod.ext h2 h3)⟩

/-- The barriers, live from the start, and the transfers' semaphores, brought in when the kernel starts. -/
abbrev barCells : Finset (GSem nD τ sig) := Finset.univ.map barEmb
abbrev xCells : Finset (GSem nD τ sig) := Finset.univ.map xEmb

/-- The barriers and the transfers' semaphores have none in common. -/
theorem cells_disjoint : Disjoint (barCells : Finset (GSem nD τ sig)) xCells := by
  rw [Finset.disjoint_left]
  intro g h₁ h₂
  obtain ⟨c, -, rfl⟩ := Finset.mem_map.mp h₁
  obtain ⟨p, -, h⟩ := Finset.mem_map.mp h₂
  exact bar_ne_x h.symm

/-- The raises by receiver: three on each barrier, one on each transfer semaphore. -/
def raise : Fin 5 × Dev nD × Fin 3 → GSem nD τ sig × ℕ × Fin 3
  | (0, c, i) => (barCell c, 0, i)
  | (1, c, i) => (xcell 0 c i, 0, 0)
  | (2, c, i) => (xcell 1 c i, 0, 0)
  | (3, c, i) => (xcell 2 c i, 0, 0)
  | (4, c, i) => (xcell 3 c i, 0, 0)

/-- The raises of the barriers, read off. -/
theorem raise_bar (p : Dev nD × Fin 3) : raise (0, p) = (barCell p.1, 0, p.2) := rfl
/-- The raises of the transfer semaphores, read off. -/
theorem raise_x (a : Fin 4) (p : Dev nD × Fin 3) : raise (a.succ, p) = (xcell a p.1 p.2, 0, 0) := by
  obtain ⟨c, i⟩ := p
  match a with
  | 0 => rfl
  | 1 => rfl
  | 2 => rfl
  | 3 => rfl

/-- Two raises have two tokens. -/
theorem raise_inj : Function.Injective raise := by
  rintro ⟨k, p⟩ ⟨k', p'⟩ h
  induction k using Fin.cases with
  | zero =>
    induction k' using Fin.cases with
    | zero =>
      rw [raise_bar, raise_bar] at h
      have h1 := bar_inj (congrArg (fun t : GSem nD τ sig × ℕ × Fin 3 => t.1) h)
      have h2 := congrArg (fun t : GSem nD τ sig × ℕ × Fin 3 => t.2.2) h
      exact Prod.ext rfl (Prod.ext h1 h2)
    | succ a => rw [raise_bar, raise_x] at h; exact (bar_ne_x (congrArg (fun t : GSem nD τ sig × ℕ × Fin 3 => t.1) h)).elim
  | succ a =>
    induction k' using Fin.cases with
    | zero => rw [raise_bar, raise_x] at h; exact (bar_ne_x (congrArg (fun t : GSem nD τ sig × ℕ × Fin 3 => t.1) h).symm).elim
    | succ a' =>
      rw [raise_x, raise_x] at h
      obtain ⟨h1, h2, h3⟩ := x_inj (congrArg (fun t : GSem nD τ sig × ℕ × Fin 3 => t.1) h)
      subst h1; exact Prod.ext rfl (Prod.ext h2 h3)

/-- The tokens of all raises. -/
def tokens : Finset (GSem nD τ sig × ℕ × Fin 3) := Finset.univ.map ⟨raise, raise_inj⟩

/-- Five summands, one by one. -/
theorem five {M : Type} [URA M] (Φ : Fin 5 → sProp M) : (bigSep Finset.univ Φ : sProp M) = iprop(Φ 0 ∗ Φ 1 ∗ Φ 2 ∗ Φ 3 ∗ Φ 4) := by
  rw [bigSep_univ_eq_bigSepL [0, 1, 2, 3, 4] (by decide) (by decide), bigSepL_cons_cons, bigSepL_cons_cons, bigSepL_cons_cons, bigSepL_cons_cons,
    bigSepL_singleton]; rfl

/-- Every token at the device that makes the raise. -/
theorem tokens_dealt : (bigSep tokens fun x => (dutyTok ER x.1 x.2.1 x.2.2 : sProp 𝕄))
    ⊢ bigSep Finset.univ fun c : Dev nD => bigSep Finset.univ (toks (F := F) c) := by
  unfold tokens toks
  rw [bigSep_map, bigSep_univ_prod, five, ← bigSep_univ_prod (fun p : Dev nD × Fin 3 => iprop(dutyTok ER (barCell (peer p.1 p.2)) 0 p.2.rev ∗ dutyTok ER (xcell 0 p.1 p.2) 0 0 ∗ dutyTok ER (xcell 1 (peer p.1 p.2) p.2.rev) 0 0
    ∗ dutyTok ER (xcell 2 p.1 p.2) 0 0 ∗ dutyTok ER (xcell 3 (peer p.1 p.2) p.2.rev) 0 0)),
    bigSep_sep', bigSep_sep', bigSep_sep', bigSep_sep']
  refine sep_mono (Entails.of_eq ?_) (sep_mono (Entails.of_eq ?_) (sep_mono (Entails.of_eq ?_) (sep_mono (Entails.of_eq ?_) (Entails.of_eq ?_))))
  · exact bigSep_univ_equiv swap (fun p : Dev nD × Fin 3 => (dutyTok ER (barCell p.1) 0 p.2 : sProp 𝕄))
  · rfl
  · exact bigSep_univ_equiv swap (fun p : Dev nD × Fin 3 => (dutyTok ER (xcell 1 p.1 p.2) 0 0 : sProp 𝕄))
  · rfl
  · exact bigSep_univ_equiv swap (fun p : Dev nD × Fin 3 => (dutyTok ER (xcell 3 p.1 p.2) 0 0 : sProp 𝕄))

/-- Every device gets the keys of its own transfer semaphores. -/
theorem keys_dealt : (bigSep xCells fun g => (openTok ER g : sProp 𝕄)) ⊢ bigSep Finset.univ fun c : Dev nD => bigSep Finset.univ (keys (F := F) c) := by
  unfold keys
  rw [bigSep_map, bigSep_univ_prod, four, ← bigSep_univ_prod (fun p : Dev nD × Fin 3 => iprop(openTok ER (xcell 0 p.1 p.2) ∗ openTok ER (xcell 1 p.1 p.2)
    ∗ openTok ER (xcell 2 p.1 p.2) ∗ openTok ER (xcell 3 p.1 p.2))), bigSep_sep', bigSep_sep', bigSep_sep']
  exact Entails.of_eq rfl

/-! ## The credit -/

/-- At launch each device owes every other device's barrier one raise. -/
theorem owed_bar (d c : Dev nD) : O₀ d (barCell c) () = if d = c then 0 else 1 := by
  have e (c c' : Dev nD) : (barCell c = barCell c') = (c = c') := propext ⟨bar_inj, fun h => by rw [h]⟩
  have e' (a : Fin 4) (c c' : Dev nD) (i : Fin 3) : (barCell c = xcell a c' i) = False := propext ⟨bar_ne_x, False.elim⟩
  simp only [O₀, owe, debt, Pi.add_apply, Finsupp.add_apply, tallyAt_apply, Pi.zero_apply, Finsupp.zero_apply, e, e', and_true, and_self, false_and, if_false]
  revert d c; decide

/-- At launch a landing semaphore is owed one transfer's amount by the device that sends there, and by no other. -/
theorem owed_x (a : Fin 4) (ha : a = 1 ∨ a = 3) (d c : Dev nD) (i : Fin 3) : O₀ d (xcell a c i) () = if d = peer c i then N else 0 := by
  have e (a a' : Fin 4) (c c' : Dev nD) (i i' : Fin 3) : (xcell a c i = xcell a' c' i') = (a = a' ∧ c = c' ∧ i = i') :=
    propext ⟨x_inj, fun ⟨h1, h2, h3⟩ => by rw [h1, h2, h3]⟩
  have e' (a : Fin 4) (c c' : Dev nD) (i : Fin 3) : (xcell a c' i = barCell c) = False := propext ⟨fun h => bar_ne_x h.symm, False.elim⟩
  simp only [O₀, owe, debt, Pi.add_apply, Finsupp.add_apply, tallyAt_apply, Pi.zero_apply, Finsupp.zero_apply, e, e', and_true, and_self, false_and, if_false]
  revert a d c i; decide +kernel

/-- So a barrier's credit is three raises, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- and a landing semaphore's is one transfer's. -/
theorem launch_x (a : Fin 4) (ha : a = 1 ∨ a = 3) (c : Dev nD) (i : Fin 3) :
    tallyOn (xcell a c i) (launchCredit (Pipeline.owing O₀) 0 (xcell a c i)) = (tallyAt (xcell a c i) () N : CellTallies nD τ sig Unit) := by
  unfold tallyAt; refine congrArg _ (Finsupp.ext fun u => ?_); cases u
  rw [Pipeline.launchCredit_owing, Finsupp.single_eq_same, Finset.sum_congr rfl fun d _ => owed_x a ha d c i,
    Finset.sum_ite_eq' Finset.univ (peer c i) fun _ => N, if_pos (Finset.mem_univ _)]

/-- The credit of the device's own cells, out of the launch's. -/
theorem credit_dealt (c : Dev nD) : (Pipeline.launchCred O₀ c : sProp 𝕄) ⊢ credit (F := F) c := by
  have hinj : Function.Injective (fun p : Fin 2 × Fin 3 => (SemLoc.dma (xsem (if p.1 = 0 then 1 else 3) p.2) : SemLoc sig)) := by decide
  unfold Pipeline.launchCred credit
  rw [bigSep_univ_at _ (SemLoc.reg barS), launch_bar]
  refine sep_mono_right ?_
  refine BIBase.Entails.trans (bigSep_subset (t := Finset.univ.map ⟨_, hinj⟩) fun s hs => ?_) ?_
  · obtain ⟨p, -, rfl⟩ := Finset.mem_map.mp hs
    exact Finset.mem_erase.mpr ⟨fun h => (by cases h), Finset.mem_univ _⟩
  rw [bigSep_map, bigSep_univ_prod, BI.bigSep_fin_two]
  unfold creds
  rw [bigSep_sep']
  refine BI.sep_mono (Entails.of_eq (bigSep_congr fun i _ => ?_)) (Entails.of_eq (bigSep_congr fun i _ => ?_))
  · exact congrArg (fun t => (cred t : sProp 𝕄)) (launch_x 1 (.inl rfl) c i)
  · exact congrArg (fun t => (cred t : sProp 𝕄)) (launch_x 3 (.inr rfl) c i)

/-! ## The program's two parts -/

/-- What rides beside the buffers while the host's part runs: all that the kernel needs. -/
def Ext (_ : Fin 2) (c : Dev nD) : sProp 𝕄 := iprop(Tk m c ∗ (∃ r, prngReg c r) ∗ ∃ W, owes (c : Thread nD τ) (O₀ c) W)

/-- A device's start and end. -/
abbrev atStart (c : Dev nD) : sProp 𝕄 := iprop(StableHlo.held (c : Thread nD τ) (Pipeline.ucRefs τ sig) (V0 m c) ∗ Ext m 0 c)
abbrev atEnd (c : Dev nD) : sProp 𝕄 := iprop(StableHlo.held (c : Thread nD τ) (Pipeline.ucRefs τ sig) (V₂ m c) ∗ semVal (barCell c) 0)

/-- The arrays of the kernel's operands and result are among the device's buffers. -/
theorem arrs_sub : Pipeline.arrRefs (τ := τ) spec0 ⊆ Pipeline.ucRefs τ sig := Pipeline.arrRefs_sub_ucRefs _ (by decide)

/-- What the host's part leaves is what the kernel starts from. -/
theorem region_pre (c : Dev nD) : iprop(StableHlo.held (c : Thread nD τ) (Pipeline.ucRefs τ sig) (V1 m c) ∗ Ext m 0 c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [zero_add, StableHlo.held_sub_split (c : Thread nD τ) arrs_sub (V1 m c)]
  unfold Ext
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

/-- What the kernel leaves is the device's end. -/
theorem region_post (c : Dev nD) : (region m).post c ⊢ iprop(atEnd m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  unfold atEnd
  rw [StableHlo.held_sub_split (c : Thread nD τ) arrs_sub (V₂ m c)]
  unfold Yk
  iintro ⟨Ha, -, ⟨Ho, -⟩, Hb, HO⟩
  isplitr [HO]
  · isplitl [Ha Ho]
    · isplitl [Ha] <;> iassumption
    iexact Hb
  iexact HO

/-! ## The launch's update -/

/-- The ghost state that the launch creates: the windows' and the protocol's. -/
def u₀ : UU := (initOf (Pipeline.cells cfgs cellOf_inj) (Pipeline.launchToks cfgs cellOf_inj), launchOf barCells xCells tokens)

/-- The protocol's part is kept by device 0 until every cell is made. -/
def seed (c : Dev nD) : sProp 𝕄 := if c = 0 then BI.own (ER (launchOf barCells xCells tokens)) else iprop(emp)

/-- The protocol's part of the launch's state, taken from device 0, -/
theorem seed_get : bigSep Finset.univ (seed (F := F)) ⊢ (BI.own (ER (launchOf barCells xCells tokens)) : sProp 𝕄) := bigSep_elim (Finset.mem_univ (0 : Dev nD))
/-- and given to it. -/
theorem seed_put : (BI.own (ER (launchOf barCells xCells tokens)) : sProp 𝕄) ⊢ bigSep Finset.univ (seed (F := F)) := by
  rw [bigSep_univ_eq_bigSepL [0, 1, 2, 3] (by decide) (by decide), bigSepL_cons_cons, bigSepL_cons_cons, bigSepL_cons_cons, bigSepL_singleton]
  show _ ⊢ iprop(BI.own (ER (launchOf barCells xCells tokens)) ∗ emp ∗ emp ∗ emp)
  iintro H
  isplitl [H]; · iexact H
  isplitr; · iempintro
  isplitr <;> iempintro

/-- The only semaphore that lives outside the kernel is the barrier's. -/
theorem unscoped_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device has from the launch beside the protocol's ghost state. -/
def plain (c : Dev nD) : sProp 𝕄 :=
  iprop(StableHlo.held (c : Thread nD τ) (Pipeline.ucRefs τ sig) (V0 m c) ∗ credit (F := F) c ∗ (∃ r, prngReg c r) ∗ ∃ W, owes (c : Thread nD τ) (O₀ c) W)
/-- What of that state is the device's alone. -/
def mine (c : Dev nD) : sProp 𝕄 :=
  iprop(atPos ER (barCell c) 0 ∅ 0 ∗ bigSep Finset.univ (keys (F := F) c) ∗ bigSep Finset.univ (toks (F := F) c))

/-- The protocol's invariants, the device's own part and its buffers are a device's start. -/
theorem start_of (κ : GSem nD τ sig → ℕ) (c : Dev nD) : iprop(invs (ins m) κ ∗ (mine (F := F) c ∗ plain m c)) ⊢ atStart m c := by
  unfold mine plain atStart Ext Tk ghost
  iintro ⟨#HI, ⟨Hat, HK, HT⟩, Hh, Hcr, Hp, HO⟩
  isplitl [Hh]; · iexact Hh
  isplitl [Hat HK HT Hcr]
  · isplitr [Hcr]
    · iexists κ
      isplitr; · iexact HI
      isplitl [Hat]; · iexact Hat
      isplitl [HK] <;> iassumption
    iexact Hcr
  isplitl [Hp] <;> iassumption

/-- What the launch gives a device, sorted. -/
theorem given (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ seed (F := F) c)
    ⊢ (iprop(plain m c ∗ (semVal (barCell c) 0 ∗ seed (F := F) c)) : sProp 𝕄) := by
  rw [show unscopedBufs c (fun b => m ((c : Thread nD τ).loc b)) = StableHlo.held (c : Thread nD τ) (Pipeline.ucRefs τ sig) (V0 m c) from
    Pipeline.unscopedBufs_held c (V0 m c), unscoped_eq]
  unfold plain
  iintro ⟨Hh, Hs, HO, Hc, Hp, HG⟩
  isplitl [Hh HO Hc Hp]
  · isplitl [Hh]; · iexact Hh
    isplitl [Hc]; · iapply (credit_dealt (F := F) c); iexact Hc
    isplitl [Hp]; · iexists (ρ c); iexact Hp
    iexists ∅; iexact HO
  isplitl [Hs] <;> iassumption

/-- A statement about every cell is one about every barrier and one about every transfer semaphore. -/
theorem cells_split (Φ : GSem nD τ sig → sProp 𝕄) : (bigSep (barCells ∪ xCells) Φ : sProp 𝕄)
    = iprop((bigSep Finset.univ fun c : Dev nD => Φ (barCell c)) ∗ bigSep Finset.univ fun p : Fin 4 × Dev nD × Fin 3 => Φ (xcell p.1 p.2.1 p.2.2)) := by
  rw [bigSep_union cells_disjoint, bigSep_map, bigSep_map]; rfl
/-- The cells as the launch makes them are the protocol's invariants. -/
theorem invs_of (κ : GSem nD τ sig → ℕ) :
    iprop((bigSep (barCells ∪ xCells) fun g => cellInv ER (sched (ins m)) (κ g) g) ∗ bigSep barCells fun g => (reached ER g 0 : sProp 𝕄))
      ⊢ invs (ins m) κ := by
  unfold invs
  rw [cells_split, bigSep_map]
  iintro ⟨⟨H1, H2⟩, H3⟩
  isplitl [H1]; · iexact H1
  isplitl [H2]; · iexact H2
  iexact H3

/-- Two statements about every device, joined into one. -/
theorem joined {Φ Ψ : Dev nD → sProp 𝕄} : iprop(bigSep Finset.univ Φ ∗ bigSep Finset.univ Ψ) ⊢ bigSep Finset.univ (fun c => iprop(Φ c ∗ Ψ c)) :=
  Entails.of_eq (bigSep_sep _ _ _).symm

/-- From what the launch gives, every device comes to its start. -/
theorem launched :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ seed (F := F) c)) ∗ levAts L lv)
      ⊢ (|={Set.univ}=> bigSep Finset.univ (atStart m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hg : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ seed (F := F) c))
      ⊢ (iprop(bigSep Finset.univ (plain m) ∗ (bigSep Finset.univ fun c : Dev nD => semVal (barCell c) 0) ∗ bigSep Finset.univ (seed (F := F))) : sProp 𝕄) := by
    rw [← bigSep_sep', ← bigSep_sep']
    exact bigSep_mono fun c _ => given m ρ c
  iintro ⟨H, -⟩
  ihave H1 := hg $$ H
  icases H1 with ⟨HP, Hv, HS⟩
  ihave HS' := (seed_get (F := F)) $$ HS
  imod (Rounds.fund_launch ER (sched (ins m)) cells_disjoint (fun g _ h => h) tokens) $$ [Hv HS'] with ⟨%κ, -, Hinv, Hr, Hat, Hopen, Htok⟩
  · isplitl [Hv]
    · iapply hv $$ Hv
    iexact HS'
  imodintro
  iapply (bigSep_with_persistent (R := invs (ins m) κ) (Φ := fun c => iprop(mine (F := F) c ∗ plain m c)) fun c _ => start_of m κ c)
  isplitl [Hinv Hr]
  · iapply (invs_of m κ)
    isplitl [Hinv] <;> iassumption
  iapply joined
  isplitr [HP]
  · unfold mine
    iapply joined; isplitl [Hat]; · iapply hat $$ Hat
    iapply joined; isplitl [Hopen]; · iapply (keys_dealt (F := F)) $$ Hopen
    iapply (tokens_dealt (F := F)) $$ Htok
  iexact HP

/-! ## The run -/

/-- What a final memory tells of device `c`. -/
def told (c : Dev nD) (s : MemSt nD τ sig (Elt F)) : Prop :=
  (∀ r ∈ [main_arg0, main_arg1, main_arg2, main_arg3, main_arg4], s.mem ((c.tc : Thread nD τ).loc r) = m ((c.tc : Thread nD τ).loc r))
    ∧ s.mem ((c.tc : Thread nD τ).loc main_v17) = outOf (ins m) c ∧ s.sem (barCell c) = 0

/-- No argument is changed by the host's part or by the kernel. -/
theorem V₂_arg (c : Dev nD) : ∀ r ∈ [main_arg0, main_arg1, main_arg2, main_arg3, main_arg4], V₂ m c r = m ((c : Thread nD τ).loc r) := by
  intro r hr
  refine (V₂_of m c r ?_).trans ((V1_of m c r ?_).trans rfl)
  · revert r; decide
  · revert r; decide

/-- A device's end tells what the final memory holds. -/
theorem end_told (c : Dev nD) (s' : Phys nD τ sig (Elt F)) : iprop(atEnd m c ∗ SI s') ⊢ (|={Set.univ}=> iprop(⌜told m c s'.mem⌝ ∗ SI s') : sProp 𝕄) := by
  unfold atEnd StableHlo.held
  iintro ⟨⟨Hh, Hb⟩, HSI⟩
  icombine HSI Hb gives %hb
  ihave Hr := (pointsTo_read_all (Pipeline.ucRefs τ sig) (fun b => ((c : Thread nD τ).1, b)) (V₂ m c) s') $$ [Hh HSI]
  · isplitl [Hh] <;> iassumption
  icases Hr with ⟨%h, HSI⟩
  imodintro
  isplitr
  · ipureintro
    refine ⟨fun r hr => ?_, ?_, by simpa using hb⟩
    · refine (h (Proc.devRef .tc r) (Finset.mem_filter.mpr ⟨StableHlo.devRef_mem_tcRefs r, ?_⟩)).trans (V₂_arg m c r hr)
      revert r; decide
    · exact (h (Proc.devRef .tc main_v17) (Finset.mem_filter.mpr ⟨StableHlo.devRef_mem_tcRefs main_v17, by decide⟩)).trans (V₂_out m c)
  iexact HSI

/-- Every semaphore outside the kernel is the barrier's. -/
theorem only_bar : ∀ sm : SemLoc sig, sm.isScoped .tc = false → sm = .reg barS := by decide

set_option backward.isDefEq.respectTransparency.types false in
/-- The whole program, from any memory with every counter at zero and under every fair schedule, ends with the arguments
    as launched, `outOf` in every device's result and every counter at zero. -/
theorem run_main : θ_run defs (onTc (τ := τ) (main (F := F))) ⟨m, fun _ => 0, ρ⟩ (fun r =>
    (∀ c : Dev nD, (∀ a ∈ [main_arg0, main_arg1, main_arg2, main_arg3, main_arg4], r.2.mem ((c.tc : Thread nD τ).loc a) = m ((c.tc : Thread nD τ).loc a))
      ∧ r.2.mem ((c.tc : Thread nD τ).loc main_v17) = outOf (ins m) c) ∧ r.2.sem = fun _ => 0) :=
  Pipeline.θ_run_regions_kit_dev_sems (pcfgs (F := F)) adm (pdats m) () cellOf_inj EP defs₀ 𝒱₀ L lv m ρ main
    (segs m 𝒱₀ L lv (Ext m) () (pdats m) (region m))
    (fun c Q => by
      rewrite [main_chain c, Pipeline.Seg.run_eq_chain,
        show (segs m 𝒱₀ L lv (Ext m) () (pdats m) (region m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne (seed (F := F)) u₀
    (by
      unfold u₀
      iintro H
      ihave H' := (ownU_pair _ _) $$ H
      icases H' with ⟨HP, HX⟩
      imodintro
      isplitl [HP]; · iexact HP
      iapply (seed_put (F := F)); iexact HX)
    (T₀ := atStart m) (Tₙ := atEnd m)
    (hch := fun c => ⟨.rfl, region_pre m c, region_post m c⟩)
    (hinit := launched m ρ) (QY := fun c s => told m c s) (hfin := fun c s' => end_told m c s')
    (hQ := fun s h hs => ⟨fun c => ⟨(h c).1, (h c).2.1⟩, sem_eq_zero hs fun c sm hsm => by
      obtain rfl := only_bar sm hsm
      exact (h c).2.2⟩)

end Cert.KernelIdeal.Ring
-- ==== Proof.Spec.lean ====
/-
# The layer as sums

Attention with a band mask and an output projection, as sums over the extended reals at single elements. The kernel's
devices and the reference are both read as these.
-/
module

public import Idealize.ShloMosaic.Lib.Pointwise

@[expose] public section

noncomputable section

namespace Cert.Attn

open Idealize.ShloMosaic

/-- One at a query and a key not more than 128 rows apart. -/
def maskAt (i j : Fin 256) : BitVec 1 :=
  IntOp.cmpi .sle (IntOp.absi (IntOp.subi (BitVec.ofNat 32 i.val) (BitVec.ofNat 32 j.val))) 128#32

/-- A masked, scaled score. -/
def scoreAt (c n : EReal) (p : BitVec 1) (q k : Fin 64 → EReal) : EReal :=
  Scalar.select p ((∑ d, q d * k d) * c) n

/-- A row's scores less the greatest, exponentiated. -/
def expAt (b : EReal) (s : Fin 256 → EReal) (j : Fin 256) : EReal :=
  Ideal.exp (s j - Finset.univ.fold max b s)

/-- A row's weights over their sum, times a column of values. -/
def mixAt (w v : Fin 256 → EReal) : EReal := ∑ j, Ideal.div (w j) (∑ y, w y) * v j

/-- The constants of the programs: the scale of the scores, the score of a masked pair, the start of a greatest. -/
def scaleC : EReal := Ideal.ofBits .f32 0x3E000000#32
/-- The score of a masked pair. -/
def maskC : EReal := Ideal.ofBits .f32 0xCE6E6B28#32
/-- The start of a greatest. -/
def botC : EReal := Ideal.ofBits .f32 0xFF800000#32

/-- One head: row `i`, column `d`, from the head's queries, keys and values. -/
def headAt (q k v : Fin 256 → Fin 64 → EReal) (i : Fin 256) (d : Fin 64) : EReal :=
  mixAt (expAt botC fun j => scoreAt scaleC maskC (maskAt i j) (q i) (k j)) fun j => v j d

/-- Position `d` of head `h`, among a device's four heads side by side. -/
def colAt (h : Fin 4) (d : Fin 64) : Fin 256 := ⟨64 * h.val + d.val, by omega⟩

/-- A sum over a device's columns is a sum over its heads and their positions. -/
theorem sum_cols {M : Type} [AddCommMonoid M] (f : Fin 256 → M) : ∑ l, f l = ∑ h, ∑ d, f (colAt h d) := by
  rw [← Fintype.sum_prod_type']
  refine (Fintype.sum_equiv (finProdFinEquiv (m := 4) (n := 64)) _ _ fun p => ?_).symm
  refine congrArg f (Fin.ext ?_)
  show 64 * p.1.val + p.2.val = p.2.val + 64 * p.1.val
  omega

end Cert.Attn
-- ==== Proof.KHead.lean ====
/-
# What a device computes by itself

The partial result of one device, written over the extended reals: each of its heads is the softmax of the masked,
scaled scores of its queries and keys, times its values; the heads stand side by side and are multiplied by the device's
rows of the output weights.
-/
module

public import proofs.«01_k».proof.Proof.KProto
public import proofs.«01_k».proof.Proof.Spec

@[expose] public section

noncomputable section

namespace Cert.KernelIdeal.Ring

open Cert.KernelIdeal Cert.KernelIdeal.Gen
open Idealize.ShloMosaic
open Idealize.ShloMosaic.TcCoe

section Any

variable {F : FTy → Type} [FloatOps F]

/-- The masked scores of one head. -/
def scoreVec (q k : FVec F S256x64 .bf16) : FVec F S256x256 .f32 :=
  select k0_pay1
    (mulf (matmul dot_S256x64_S256x64_S256x256_1_1_0_0_n_n none q k (constant S256x256 .f32 0x00000000#32))
      (broadcast S256x256 (Scalar.ofBits .f32 0x3E000000#32)))
    (broadcast S256x256 (Scalar.ofBits .f32 0xCE6E6B28#32))

/-- Scores less the greatest of their row, exponentiated. -/
def expVec (s : FVec F S256x256 .f32) : FVec F S256x256 .f32 :=
  exp (subf s (broadcastTo S256x256
    (shapeCast S256x1 (multiReduction .maximumf [1] S256 s 0xFF800000#32 reduces_S256x256_S256 (.inl rfl) rfl) shapeCasts_S256_S256x1)
    broadcasts_S256x1_S256x256))

/-- Weights divided by the sum of their row, times the values. -/
def mixVec (w : FVec F S256x256 .f32) (v : FVec F S256x64 .bf16) : FVec F S256x64 .bf16 :=
  truncf .bf16 (matmul dot_S256x256_S256x64_S256x64_1_0_0_1_n_n none
    (truncf .bf16 (divf w (broadcastTo S256x256
      (shapeCast S256x1 (multiReduction .add [1] S256 w 0x00000000#32 reduces_S256x256_S256 (.inl rfl) rfl) shapeCasts_S256_S256x1)
      broadcasts_S256x1_S256x256)) bitsLt_bf16_f32)
    v (constant S256x64 .f32 0x00000000#32)) bitsLt_bf16_f32

/-- One head from its queries, keys and values. -/
def headVec (q k v : FVec F S256x64 .bf16) : FVec F S256x64 .bf16 := mixVec (expVec (scoreVec q k)) v

/-- Head `h` of batch `b` as the kernel slices and loads it. -/
def head00 (I : Ins F) : FVec F S256x64 .bf16 :=
  headVec (extractStridedSlice S256x64 ![0, 0] (qOf I) slices_S512x256_o0_0_S256x64)
    (shapeCast S256x64 (ldK I ![0, 0, 0, 0] inb_S2x4x256x64_S1x1x256x64_0_0_0_0) shapeCasts_S1x1x256x64_S256x64)
    (shapeCast S256x64 (ldV I ![0, 0, 0, 0] inb_S2x4x256x64_S1x1x256x64_0_0_0_0) shapeCasts_S1x1x256x64_S256x64)
/-- Head 1 of batch 0. -/
def head01 (I : Ins F) : FVec F S256x64 .bf16 :=
  headVec (extractStridedSlice S256x64 ![0, 64] (qOf I) slices_S512x256_o0_64_S256x64)
    (shapeCast S256x64 (ldK I ![0, 1, 0, 0] inb_S2x4x256x64_S1x1x256x64_0_1_0_0) shapeCasts_S1x1x256x64_S256x64)
    (shapeCast S256x64 (ldV I ![0, 1, 0, 0] inb_S2x4x256x64_S1x1x256x64_0_1_0_0) shapeCasts_S1x1x256x64_S256x64)
/-- Head 2 of batch 0. -/
def head02 (I : Ins F) : FVec F S256x64 .bf16 :=
  headVec (extractStridedSlice S256x64 ![0, 128] (qOf I) slices_S512x256_o0_128_S256x64)
    (shapeCast S256x64 (ldK I ![0, 2, 0, 0] inb_S2x4x256x64_S1x1x256x64_0_2_0_0) shapeCasts_S1x1x256x64_S256x64)
    (shapeCast S256x64 (ldV I ![0, 2, 0, 0] inb_S2x4x256x64_S1x1x256x64_0_2_0_0) shapeCasts_S1x1x256x64_S256x64)
/-- Head 3 of batch 0. -/
def head03 (I : Ins F) : FVec F S256x64 .bf16 :=
  headVec (extractStridedSlice S256x64 ![0, 192] (qOf I) slices_S512x256_o0_192_S256x64)
    (shapeCast S256x64 (ldK I ![0, 3, 0, 0] inb_S2x4x256x64_S1x1x256x64_0_3_0_0) shapeCasts_S1x1x256x64_S256x64)
    (shapeCast S256x64 (ldV I ![0, 3, 0, 0] inb_S2x4x256x64_S1x1x256x64_0_3_0_0) shapeCasts_S1x1x256x64_S256x64)
/-- Head 0 of batch 1. -/
def head10 (I : Ins F) : FVec F S256x64 .bf16 :=
  headVec (extractStridedSlice S256x64 ![256, 0] (qOf I) slices_S512x256_o256_0_S256x64)
    (shapeCast S256x64 (ldK I ![1, 0, 0, 0] inb_S2x4x256x64_S1x1x256x64_1_0_0_0) shapeCasts_S1x1x256x64_S256x64)
    (shapeCast S256x64 (ldV I ![1, 0, 0, 0] inb_S2x4x256x64_S1x1x256x64_1_0_0_0) shapeCasts_S1x1x256x64_S256x64)
/-- Head 1 of batch 1. -/
def head11 (I : Ins F) : FVec F S256x64 .bf16 :=
  headVec (extractStridedSlice S256x64 ![256, 64] (qOf I) slices_S512x256_o256_64_S256x64)
    (shapeCast S256x64 (ldK I ![1, 1, 0, 0] inb_S2x4x256x64_S1x1x256x64_1_1_0_0) shapeCasts_S1x1x256x64_S256x64)
    (shapeCast S256x64 (ldV I ![1, 1, 0, 0] inb_S2x4x256x64_S1x1x256x64_1_1_0_0) shapeCasts_S1x1x256x64_S256x64)
/-- Head 2 of batch 1. -/
def head12 (I : Ins F) : FVec F S256x64 .bf16 :=
  headVec (extractStridedSlice S256x64 ![256, 128] (qOf I) slices_S512x256_o256_128_S256x64)
    (shapeCast S256x64 (ldK I ![1, 2, 0, 0] inb_S2x4x256x64_S1x1x256x64_1_2_0_0) shapeCasts_S1x1x256x64_S256x64)
    (shapeCast S256x64 (ldV I ![1, 2, 0, 0] inb_S2x4x256x64_S1x1x256x64_1_2_0_0) shapeCasts_S1x1x256x64_S256x64)
/-- Head 3 of batch 1. -/
def head13 (I : Ins F) : FVec F S256x64 .bf16 :=
  headVec (extractStridedSlice S256x64 ![256, 192] (qOf I) slices_S512x256_o256_192_S256x64)
    (shapeCast S256x64 (ldK I ![1, 3, 0, 0] inb_S2x4x256x64_S1x1x256x64_1_3_0_0) shapeCasts_S1x1x256x64_S256x64)
    (shapeCast S256x64 (ldV I ![1, 3, 0, 0] inb_S2x4x256x64_S1x1x256x64_1_3_0_0) shapeCasts_S1x1x256x64_S256x64)

/-- The heads of one batch side by side. -/
def rowVec (a b c d : FVec F S256x64 .bf16) : FVec F S256x256 .bf16 :=
  concatenate S256x256 1 [⟨S256x64, a⟩, ⟨S256x64, b⟩, ⟨S256x64, c⟩, ⟨S256x64, d⟩] concatenates_S256x64_S256x64_S256x64_S256x64_S256x256_d1

/-- The heads of both batches. -/
def ctxVec (I : Ins F) : FVec F S512x256 .bf16 :=
  concatenate S512x256 0 [⟨S256x256, rowVec (head00 I) (head01 I) (head02 I) (head03 I)⟩,
    ⟨S256x256, rowVec (head10 I) (head11 I) (head12 I) (head13 I)⟩] concatenates_S256x256_S256x256_S512x256_d0

/-- The output weights as the kernel loads them. -/
def woVec (I : Ins F) : FVec F S256x512 .bf16 :=
  shapeCast S256x512 (woM.view.readAt (Elt F) (Rect.unit (s := S256x512) ![0, 0] S256x512.size inb_S256x512_S256x512_0_0).toLoadRect I.wo)
    shapeCasts_S256x512_S256x512

/-- The first batch's heads are four heads side by side. -/
theorem att0_eq (I : Ins F) : att0 I = rowVec (head00 I) (head01 I) (head02 I) (head03 I) := rfl

/-- The partial result is the heads times the output weights. -/
theorem partOf_eq (I : Ins F) : partOf I = shapeCast S2x256x512
    (matmul dot_S512x256_S256x512_S512x512_1_0_0_1_n_n none (ctxVec I) (woVec I) (constant S512x512 .f32 0x00000000#32))
    shapeCasts_S512x512_S2x256x512 := rfl

end Any

open Cert.Attn

/-- The scores at an element. -/
theorem score_at (q k : FVec Ideal S256x64 .bf16) (i j : Fin 256) :
    scoreVec q k (ix2 i j) = scoreAt scaleC maskC (k0_pay1 (ix2 i j)) (fun d => q (ix2 i d)) (fun d => k (ix2 j d)) := by
  pointwise [scoreVec]
  rfl
/-- The weights at an element. -/
theorem exp_at (s : FVec Ideal S256x256 .f32) (i j : Fin 256) : expVec s (ix2 i j) = expAt botC (fun y => s (ix2 i y)) j := by
  pointwise [expVec]
  rfl
/-- The weighted values at an element. -/
theorem mix_at (w : FVec Ideal S256x256 .f32) (v : FVec Ideal S256x64 .bf16) (i : Fin 256) (d : Fin 64) :
    mixVec w v (ix2 i d) = mixAt (fun y => w (ix2 i y)) (fun y => v (ix2 y d)) := by
  pointwise [mixVec]
  rfl
/-- The mask at an element. -/
theorem mask_at (i j : Fin 256) : k0_pay1 (ix2 i j) = maskAt i j := by
  pointwise [k0_pay1]
  rfl
/-- One head at an element. -/
theorem headVec_at (q k v : FVec Ideal S256x64 .bf16) (i : Fin 256) (d : Fin 64) :
    headVec q k v (ix2 i d) = headAt (fun i d => q (ix2 i d)) (fun i d => k (ix2 i d)) (fun i d => v (ix2 i d)) i d := by
  show mixVec _ _ _ = _
  rw [mix_at]
  unfold headAt
  congr 1
  funext j
  rw [exp_at]
  congr 1
  funext y
  rw [score_at, mask_at]

/-! ## The operands at an element -/

/-- Row `r` of batch `b`, among the rows of both batches. -/
def rowAt (b : Fin 2) (r : Fin 256) : Fin 512 := ⟨b.val * 256 + r.val, by omega⟩

/-- The token rows are loaded whole. -/
theorem x_at (I : Ins Ideal) :
    xM.view.readAt (Elt Ideal) (Rect.unit (s := S2x256x512) ![0, 0, 0] S2x256x512.size inb_S2x256x512_S2x256x512_0_0_0).toLoadRect I.x = I.x :=
  Memref.readAt_unit_zero (Elt Ideal) cc0_stg0_0 (by funext a; fin_cases a <;> rfl) _ I.x
/-- The query weights are loaded whole. -/
theorem wq_at (I : Ins Ideal) :
    wqM.view.readAt (Elt Ideal) (Rect.unit (s := S512x256) ![0, 0] S512x256.size inb_S512x256_S512x256_0_0).toLoadRect I.wq = I.wq :=
  Memref.readAt_unit_zero (Elt Ideal) cc0_stg1_0 (by funext a; fin_cases a <;> rfl) _ I.wq
/-- The output weights are loaded whole. -/
theorem wo_at (I : Ins Ideal) :
    woM.view.readAt (Elt Ideal) (Rect.unit (s := S256x512) ![0, 0] S256x512.size inb_S256x512_S256x512_0_0).toLoadRect I.wo = I.wo :=
  Memref.readAt_unit_zero (Elt Ideal) cc0_stg4_0 (by funext a; fin_cases a <;> rfl) _ I.wo
/-- Where a head's element lies among the heads of both batches. -/
theorem head_emb (b : Fin 2) (h : Fin 4) (inb) (r : Fin 256) (d : Fin 64) :
    (Rect.unit (s := S2x4x256x64) ![b.val, h.val, 0, 0] S1x1x256x64.size inb).emb (ix4 0 0 r d) = (ix4 b h r d : S2x4x256x64.Idx) := by
  funext a
  apply Fin.ext
  rw [Rect.emb_apply, Rect.off_unit, Rect.stride_unit]
  fin_cases a <;> simp [ix4]
/-- The keys of one head, at an element. -/
theorem k_at (I : Ins Ideal) (b : Fin 2) (h : Fin 4) (inb) (r : Fin 256) (d : Fin 64) :
    ldK I ![b.val, h.val, 0, 0] inb (ix4 0 0 r d) = I.k (ix4 b h r d) := congrArg I.k (head_emb b h inb r d)
/-- The values of one head, at an element. -/
theorem v_at (I : Ins Ideal) (b : Fin 2) (h : Fin 4) (inb) (r : Fin 256) (d : Fin 64) :
    ldV I ![b.val, h.val, 0, 0] inb (ix4 0 0 r d) = I.v (ix4 b h r d) := congrArg I.v (head_emb b h inb r d)

/-- A token row's entry. -/
def xE (I : Ins Ideal) (b : Fin 2) (r : Fin 256) (x : Fin 512) : EReal := I.x (ix3 b r x)
/-- A query weight. -/
def wqE (I : Ins Ideal) (x : Fin 512) (l : Fin 256) : EReal := I.wq (ix2 x l)
/-- An output weight. -/
def woE (I : Ins Ideal) (l : Fin 256) (e : Fin 512) : EReal := I.wo (ix2 l e)

/-- The queries at an element. -/
theorem q_at (I : Ins Ideal) (b : Fin 2) (r : Fin 256) (l : Fin 256) :
    qOf I (ix2 (rowAt b r) l) = ∑ x : Fin 512, xE I b r x * wqE I x l := by
  unfold qOf
  rw [x_at, wq_at]
  pointwise [k0_pay2, rowAt]
  rfl

/-- Head `h` of batch `b`, from a device's operands. -/
def headOf (I : Ins Ideal) (b : Fin 2) (h : Fin 4) (i : Fin 256) (d : Fin 64) : EReal :=
  headAt (fun r d => ∑ x : Fin 512, xE I b r x * wqE I x (colAt h d))
    (fun r d => I.k (ix4 b h r d)) (fun r d => I.v (ix4 b h r d)) i d

/-- A head from the slices the kernel takes is `headOf`. -/
theorem headVec_slice (I : Ins Ideal) (b : Fin 2) (h : Fin 4) (q k v : FVec Ideal S256x64 .bf16)
    (hq : ∀ r d, q (ix2 r d) = qOf I (ix2 (rowAt b r) (colAt h d)))
    (hk : ∀ r d, k (ix2 r d) = I.k (ix4 b h r d)) (hv : ∀ r d, v (ix2 r d) = I.v (ix4 b h r d)) (i : Fin 256) (d : Fin 64) :
    headVec q k v (ix2 i d) = headOf I b h i d := by
  rw [headVec_at]
  unfold headOf
  congr 1
  · funext r d; rw [hq, q_at]
  · funext r d; exact hk r d
  · funext r d; exact hv r d

/-- Head 0 of batch 0 at an element. -/
theorem head00_at (I : Ins Ideal) (i : Fin 256) (d : Fin 64) : head00 I (ix2 i d) = headOf I 0 0 i d :=
  headVec_slice I 0 0 _ _ _ (fun r d => by pointwise [rowAt, colAt]) (fun r d => by pointwise []; exact k_at I 0 0 _ r d)
    (fun r d => by pointwise []; exact v_at I 0 0 _ r d) i d
/-- Head 1 of batch 0 at an element. -/
theorem head01_at (I : Ins Ideal) (i : Fin 256) (d : Fin 64) : head01 I (ix2 i d) = headOf I 0 1 i d :=
  headVec_slice I 0 1 _ _ _ (fun r d => by pointwise [rowAt, colAt]) (fun r d => by pointwise []; exact k_at I 0 1 _ r d)
    (fun r d => by pointwise []; exact v_at I 0 1 _ r d) i d
/-- Head 2 of batch 0 at an element. -/
theorem head02_at (I : Ins Ideal) (i : Fin 256) (d : Fin 64) : head02 I (ix2 i d) = headOf I 0 2 i d :=
  headVec_slice I 0 2 _ _ _ (fun r d => by pointwise [rowAt, colAt]) (fun r d => by pointwise []; exact k_at I 0 2 _ r d)
    (fun r d => by pointwise []; exact v_at I 0 2 _ r d) i d
/-- Head 3 of batch 0 at an element. -/
theorem head03_at (I : Ins Ideal) (i : Fin 256) (d : Fin 64) : head03 I (ix2 i d) = headOf I 0 3 i d :=
  headVec_slice I 0 3 _ _ _ (fun r d => by pointwise [rowAt, colAt]) (fun r d => by pointwise []; exact k_at I 0 3 _ r d)
    (fun r d => by pointwise []; exact v_at I 0 3 _ r d) i d
/-- Head 0 of batch 1 at an element. -/
theorem head10_at (I : Ins Ideal) (i : Fin 256) (d : Fin 64) : head10 I (ix2 i d) = headOf I 1 0 i d :=
  headVec_slice I 1 0 _ _ _ (fun r d => by pointwise [rowAt, colAt]) (fun r d => by pointwise []; exact k_at I 1 0 _ r d)
    (fun r d => by pointwise []; exact v_at I 1 0 _ r d) i d
/-- Head 1 of batch 1 at an element. -/
theorem head11_at (I : Ins Ideal) (i : Fin 256) (d : Fin 64) : head11 I (ix2 i d) = headOf I 1 1 i d :=
  headVec_slice I 1 1 _ _ _ (fun r d => by pointwise [rowAt, colAt]) (fun r d => by pointwise []; exact k_at I 1 1 _ r d)
    (fun r d => by pointwise []; exact v_at I 1 1 _ r d) i d
/-- Head 2 of batch 1 at an element. -/
theorem head12_at (I : Ins Ideal) (i : Fin 256) (d : Fin 64) : head12 I (ix2 i d) = headOf I 1 2 i d :=
  headVec_slice I 1 2 _ _ _ (fun r d => by pointwise [rowAt, colAt]) (fun r d => by pointwise []; exact k_at I 1 2 _ r d)
    (fun r d => by pointwise []; exact v_at I 1 2 _ r d) i d
/-- Head 3 of batch 1 at an element. -/
theorem head13_at (I : Ins Ideal) (i : Fin 256) (d : Fin 64) : head13 I (ix2 i d) = headOf I 1 3 i d :=
  headVec_slice I 1 3 _ _ _ (fun r d => by pointwise [rowAt, colAt]) (fun r d => by pointwise []; exact k_at I 1 3 _ r d)
    (fun r d => by pointwise []; exact v_at I 1 3 _ r d) i d

/-- Two elements of the same head are the same at equal columns. -/
theorem at_col (p : FVec Ideal S256x64 .bf16) (r : Fin 256) (a b : Fin 64) (h : a.val = b.val) : p (ix2 r a) = p (ix2 r b) := by
  rw [Fin.ext h]

/-- Four heads side by side, at an element. -/
theorem rowVec_at (f : Fin 4 → FVec Ideal S256x64 .bf16) (r : Fin 256) (h : Fin 4) (d : Fin 64) :
    rowVec (f 0) (f 1) (f 2) (f 3) (ix2 r (colAt h d)) = f h (ix2 r d) := by
  have hd := d.isLt
  fin_vals h with hh <;> pointwise [rowVec, colAt]
  · obtain rfl : h = 0 := Fin.ext hh
    split_ifs <;> first | omega | (apply at_col; simp only []; omega)
  · obtain rfl : h = 1 := Fin.ext hh
    split_ifs <;> first | omega | (apply at_col; simp only []; omega)
  · obtain rfl : h = 2 := Fin.ext hh
    split_ifs <;> first | omega | (apply at_col; simp only []; omega)
  · obtain rfl : h = 3 := Fin.ext hh
    split_ifs <;> first | omega | (apply at_col; simp only []; omega)

/-- The four heads of the first batch. -/
def heads0 (I : Ins Ideal) (h : Fin 4) : FVec Ideal S256x64 .bf16 := ![head00 I, head01 I, head02 I, head03 I] h
/-- The four heads of the second batch. -/
def heads1 (I : Ins Ideal) (h : Fin 4) : FVec Ideal S256x64 .bf16 := ![head10 I, head11 I, head12 I, head13 I] h

/-- The heads of the first batch at an element. -/
theorem heads0_at (I : Ins Ideal) (h : Fin 4) (i : Fin 256) (d : Fin 64) : heads0 I h (ix2 i d) = headOf I 0 h i d := by
  match h with
  | 0 => exact head00_at I i d
  | 1 => exact head01_at I i d
  | 2 => exact head02_at I i d
  | 3 => exact head03_at I i d
/-- The heads of the second batch at an element. -/
theorem heads1_at (I : Ins Ideal) (h : Fin 4) (i : Fin 256) (d : Fin 64) : heads1 I h (ix2 i d) = headOf I 1 h i d := by
  match h with
  | 0 => exact head10_at I i d
  | 1 => exact head11_at I i d
  | 2 => exact head12_at I i d
  | 3 => exact head13_at I i d

/-- Rows of the first batch come from the first batch's heads. -/
theorem ctxVec_row0 (I : Ins Ideal) (r : Fin 256) (l : Fin 256) :
    ctxVec I (ix2 (rowAt 0 r) l) = rowVec (heads0 I 0) (heads0 I 1) (heads0 I 2) (heads0 I 3) (ix2 r l) := by
  have hr := r.isLt
  pointwise [ctxVec, rowAt]
  rfl

/-- Rows of the second batch come from the second batch's heads. -/
theorem ctxVec_row1 (I : Ins Ideal) (r : Fin 256) (l : Fin 256) :
    ctxVec I (ix2 (rowAt 1 r) l) = rowVec (heads1 I 0) (heads1 I 1) (heads1 I 2) (heads1 I 3) (ix2 r l) := by
  have hr := r.isLt
  pointwise [ctxVec, rowAt]
  rfl

/-- The heads of all rows side by side, at an element. -/
theorem ctxVec_at (I : Ins Ideal) (b : Fin 2) (r : Fin 256) (h : Fin 4) (d : Fin 64) :
    ctxVec I (ix2 (rowAt b r) (colAt h d)) = headOf I b h r d := by
  match b with
  | 0 => rw [ctxVec_row0, rowVec_at (heads0 I), heads0_at]
  | 1 => rw [ctxVec_row1, rowVec_at (heads1 I), heads1_at]

/-- A device's part of the output, at an element: the sum over its heads. -/
theorem part_at (I : Ins Ideal) (b : Fin 2) (r : Fin 256) (e : Fin 512) :
    partOf I (ix3 b r e) = ∑ h : Fin 4, ∑ d : Fin 64, headOf I b h r d * woE I (colAt h d) e := by
  rw [partOf_eq]
  pointwise [woVec]
  rw [sum_cols]
  refine Finset.sum_congr rfl fun h _ => Finset.sum_congr rfl fun d _ => ?_
  exact congrArg₂ (· * ·) (ctxVec_at I b r h d) (congrFun (wo_at I) _)

end Cert.KernelIdeal.Ring
-- ==== Proof.KValue.lean ====
/- What the kernel leaves in the result on every device: at each element the sum of the four devices'
   parts. A device adds its peers' parts of its own rows to its own part, and the reduced rows of its
   peers are copied into the other rows; over the extended reals the roundings of the transfers are
   the identity and the order of the four summands does not matter. -/
module
public import proofs.«01_k».proof.Proof.KHead
@[expose] public section
noncomputable section
namespace Cert.KernelIdeal.Ring
open Cert.KernelIdeal Cert.KernelIdeal.Gen
open Idealize.ShloMosaic
open Idealize.ShloMosaic.TcCoe

/-- Where an element of a device's rows lies in the result. -/
theorem rows_emb (d : Dev nD) (off : Fin 3 → Nat) (ho : off = ![0, 64 * d.val, 0]) (inb) (b : Fin 2) (r : Fin 64) (e : Fin 512) :
    (Rect.unit (s := S2x256x512) off S2x64x512.size inb).emb (ix3 b r e : S2x64x512.Idx) = (ix3 b (rowOf d r) e : S2x256x512.Idx) := by
  subst ho
  funext a
  apply Fin.ext
  rw [Rect.emb_apply, Rect.off_unit, Rect.stride_unit]
  fin_cases a <;> simp [ix3, rowOf]

/-- A device's rows after they are written. -/
theorem write_rows (d : Dev nD) (off : Fin 3 → Nat) (ho : off = ![0, 64 * d.val, 0]) (inb)
    (f : (cc0_stg5_0 : Ref sig .tc).ty.Contents (Elt Ideal)) (w : FVec Ideal S2x64x512 .f32) (b : Fin 2) (r : Fin 64) (e : Fin 512) :
    (outM.access (Rect.unit (s := S2x256x512) off S2x64x512.size inb)).write (Elt Ideal) f w Finset.univ (ix3 b (rowOf d r) e : S2x256x512.Idx) = w (ix3 b r e) := by
  have h := View.write_emb_of_mem (v := outM.access (Rect.unit (s := S2x256x512) off S2x64x512.size inb)) (Val := Elt Ideal) f w
    (M := Finset.univ) (x := (ix3 b r e : S2x64x512.Idx)) (Finset.mem_univ _)
  rw [← rows_emb d off ho inb]
  exact h

/-- The other devices' rows are as they were. -/
theorem write_others (d d' : Dev nD) (hd : d' ≠ d) (off : Fin 3 → Nat) (ho : off = ![0, 64 * d.val, 0]) (inb)
    (f : (cc0_stg5_0 : Ref sig .tc).ty.Contents (Elt Ideal)) (w : FVec Ideal S2x64x512 .f32) (b : Fin 2) (r : Fin 64) (e : Fin 512) :
    (outM.access (Rect.unit (s := S2x256x512) off S2x64x512.size inb)).write (Elt Ideal) f w Finset.univ (ix3 b (rowOf d' r) e : S2x256x512.Idx)
      = f (ix3 b (rowOf d' r) e : S2x256x512.Idx) := by
  refine View.write_of_not_mem _ _ _ fun hm => ?_
  obtain ⟨x, -, hx⟩ := Finset.mem_map.mp hm
  have h1 : ((Rect.unit (s := S2x256x512) off S2x64x512.size inb).emb x 1).val = (rowOf d' r).val := congrArg (fun y : S2x256x512.Idx => (y 1).val) hx
  rw [Rect.emb_apply, Rect.off_unit, Rect.stride_unit, congrFun ho 1] at h1
  have hx1 : (x 1).val < 64 := (x 1).isLt
  have hr := r.isLt
  apply hd
  apply Fin.ext
  simp [rowOf] at h1
  omega

/-- A device's rows, as the kernel loads them. -/
theorem load_rows (d : Dev nD) (off : Fin 3 → Nat) (ho : off = ![0, 64 * d.val, 0]) (inb)
    (f : (cc0_stg5_0 : Ref sig .tc).ty.Contents (Elt Ideal)) (b : Fin 2) (r : Fin 64) (e : Fin 512) :
    outM.view.readAt (Elt Ideal) (Rect.unit (s := S2x256x512) off S2x64x512.size inb).toLoadRect f (ix3 b r e : S2x64x512.Idx)
      = f (ix3 b (rowOf d r) e : S2x256x512.Idx) := congrArg f (rows_emb d off ho inb b r e)

/-- Where a slot's element lies among the slots. -/
theorem slot_emb (j : Fin 3) (inb) (b : Fin 2) (r : Fin 64) (e : Fin 512) :
    (Rect.unit (s := S3x2x64x512) ![j.val, 0, 0, 0] S1x2x64x512.size inb).emb (ix4 0 b r e : S1x2x64x512.Idx) = (ix4 j b r e : S3x2x64x512.Idx) := by
  funext a
  apply Fin.ext
  rw [Rect.emb_apply, Rect.off_unit, Rect.stride_unit]
  fin_cases a <;> simp [ix4]

/-- A slot of parts, as the kernel reads it. -/
theorem ldR_at (j : Fin 3) (f : (cc0_scratch1 : Ref sig .tc).ty.Contents (Elt Ideal)) (b : Fin 2) (r : Fin 64) (e : Fin 512) :
    ldR j f (ix4 0 b r e) = f (ix4 j b r e : S3x2x64x512.Idx) := congrArg f (slot_emb j _ b r e)
/-- A slot of reduced rows, as the kernel reads it. -/
theorem ldA_at (j : Fin 3) (f : (cc0_scratch3 : Ref sig .tc).ty.Contents (Elt Ideal)) (b : Fin 2) (r : Fin 64) (e : Fin 512) :
    ldA j f (ix4 0 b r e) = f (ix4 j b r e : S3x2x64x512.Idx) := congrArg f (slot_emb j _ b r e)

/-- The bf16 copy of a part is the part. -/
theorem pbuf_at (I : Ins Ideal) (b : Fin 2) (r : Fin 256) (e : Fin 512) : pbuf I (ix3 b r e) = partOf I (ix3 b r e) := by
  unfold pbuf
  pointwise [k0_pay19]

variable (A : Dev nD → Ins Ideal)

/-- An entry of a device's part of the output. -/
def partE (d : Dev nD) (b : Fin 2) (r : Fin 256) (e : Fin 512) : EReal := partOf (A d) (ix3 b r e)

/-- A slot of parts holds the peer's part of the device's own rows. -/
theorem slotR_at (c : Dev nD) (j : Fin 3) (b : Fin 2) (r : Fin 64) (e : Fin 512) :
    ldR j (rsAll A c) (ix4 0 b r e) = partE A (peer c j) b (rowOf c r) e :=
  (ldR_at j _ b r e).trans (pbuf_at (A (peer c j)) b (rowOf c r) e)

/-- A device and its three peers are all four devices. -/
theorem sum_peers (f : Dev nD → EReal) (c : Dev nD) :
    f c + f (peer c 0) + f (peer c 2) + f (peer c 1) = ∑ s : Fin 4, f s := by
  rw [Fin.sum_univ_four]
  have hc : ∀ c : Dev nD, c = 0 ∨ c = 1 ∨ c = 2 ∨ c = 3 := by decide
  rcases hc c with rfl | rfl | rfl | rfl
  · rw [show peer 0 0 = 1 by decide, show peer 0 2 = 3 by decide, show peer 0 1 = 2 by decide]; abel
  · rw [show peer 1 0 = 2 by decide, show peer 1 2 = 0 by decide, show peer 1 1 = 3 by decide]; abel
  · rw [show peer 2 0 = 3 by decide, show peer 2 2 = 1 by decide, show peer 2 1 = 0 by decide]; abel
  · rw [show peer 3 0 = 0 by decide, show peer 3 2 = 2 by decide, show peer 3 1 = 1 by decide]; abel

/-- The reduced rows of a device: the sum of the four devices' parts. -/
theorem acc_at (c : Dev nD) (b : Fin 2) (r : Fin 64) (e : Fin 512) :
    accOf A c (ix3 b r e) = ∑ s : Fin 4, partE A s b (rowOf c r) e := by
  rw [← sum_peers (fun s => partE A s b (rowOf c r) e) c]
  unfold accOf
  pointwise [k0_pay20, k0_pay21, k0_pay22]
  refine congrArg₂ (· + ·) (congrArg₂ (· + ·) (congrArg₂ (· + ·) ?_ ?_) ?_) ?_
  · exact load_rows c _ (k0_off2_eq c) _ _ b r e
  · exact slotR_at A c 0 b r e
  · exact slotR_at A c 2 b r e
  · exact slotR_at A c 1 b r e

/-- The bf16 copy of the reduced rows is the reduced rows. -/
theorem red_at (c : Dev nD) (b : Fin 2) (r : Fin 64) (e : Fin 512) : redOf A c (ix3 b r e) = accOf A c (ix3 b r e) := by
  unfold redOf
  pointwise [k0_pay23]

/-- A slot of reduced rows holds the peer's reduced rows. -/
theorem slotA_at (c : Dev nD) (j : Fin 3) (b : Fin 2) (r : Fin 64) (e : Fin 512) :
    ldA j (agAll A c) (ix4 0 b r e) = ∑ s : Fin 4, partE A s b (rowOf (peer c j) r) e :=
  (ldA_at j _ b r e).trans ((red_at A (peer c j) b r e).trans (acc_at A (peer c j) b r e))

/-- Slot 0, widened. -/
theorem pay24_at (v : Vec Ideal S1x2x64x512 .bf16) (b : Fin 2) (r : Fin 64) (e : Fin 512) : k0_pay24 v (ix3 b r e) = v (ix4 0 b r e) := by
  pointwise [k0_pay24]
/-- Slot 2, widened. -/
theorem pay25_at (v : Vec Ideal S1x2x64x512 .bf16) (b : Fin 2) (r : Fin 64) (e : Fin 512) : k0_pay25 v (ix3 b r e) = v (ix4 0 b r e) := by
  pointwise [k0_pay25]
/-- Slot 1, widened. -/
theorem pay26_at (v : Vec Ideal S1x2x64x512 .bf16) (b : Fin 2) (r : Fin 64) (e : Fin 512) : k0_pay26 v (ix3 b r e) = v (ix4 0 b r e) := by
  pointwise [k0_pay26]

/-- The result on any device, at an element of any device's rows: the sum of the four devices' parts. -/
theorem out_rows (c d : Dev nD) (b : Fin 2) (r : Fin 64) (e : Fin 512) :
    outOf A c (ix3 b (rowOf d r) e : S2x256x512.Idx) = ∑ s : Fin 4, partE A s b (rowOf d r) e := by
  unfold outOf
  by_cases h1 : d = peer c 1
  · subst h1
    exact (write_rows (peer c 1) _ (k0_off3_eq c 1) _ _ _ b r e).trans ((pay26_at _ b r e).trans (slotA_at A c 1 b r e))
  refine (write_others (peer c 1) d h1 _ (k0_off3_eq c 1) _ _ _ b r e).trans ?_
  by_cases h2 : d = peer c 2
  · subst h2
    exact (write_rows (peer c 2) _ (k0_off3_eq c 2) _ _ _ b r e).trans ((pay25_at _ b r e).trans (slotA_at A c 2 b r e))
  refine (write_others (peer c 2) d h2 _ (k0_off3_eq c 2) _ _ _ b r e).trans ?_
  by_cases h0 : d = peer c 0
  · subst h0
    exact (write_rows (peer c 0) _ (k0_off3_eq c 0) _ _ _ b r e).trans ((pay24_at _ b r e).trans (slotA_at A c 0 b r e))
  refine (write_others (peer c 0) d h0 _ (k0_off3_eq c 0) _ _ _ b r e).trans ?_
  have hd : d = c := by revert h0 h1 h2; revert c d; decide
  subst hd
  exact (write_rows d _ (k0_off2_eq d) _ _ _ b r e).trans (acc_at A d b r e)

/-- The result on any device, at any element: the sum of the four devices' parts. -/
theorem out_at (c : Dev nD) (b : Fin 2) (r : Fin 256) (e : Fin 512) :
    outOf A c (ix3 b r e : S2x256x512.Idx) = ∑ s : Fin 4, partE A s b r e := by
  have hr := r.isLt
  have h : r = rowOf ⟨r.val / 64, by simp only [nD]; omega⟩ ⟨r.val % 64, by omega⟩ := by
    apply Fin.ext; simp only [rowOf]; omega
  rw [h]
  exact out_rows A c _ b _ e

end Cert.KernelIdeal.Ring
-- ==== Proof.RValue.lean ====
/-
# What the reference computes

The reference's result over the extended reals, read stage by stage at single elements: its queries, its scores, the
weights of a head, the head, and the output projection as a sum over all sixteen heads.
-/
module

public import proofs.«01_k».proof.Proof.Spec
public import Idealize.ShloMosaic.Lib.Routing.OpsOrder
public import proofs.«01_k».proof.Proof.Gen.ReferenceIdeal.Run

@[expose] public section

noncomputable section

namespace Cert.ReferenceIdeal.Layer

open Cert.ReferenceIdeal Cert.ReferenceIdeal.Gen Cert.Attn
open Idealize.ShloMosaic Idealize.ShloMosaic.TcCoe

section Any

variable {F : FTy → Type} [FloatOps F]

/-- The queries, cut into heads. -/
def qTab (x : FVec F S2x256x512 .bf16) (wq : FVec F S512x1024 .bf16) : FVec F S2x256x16x64 .bf16 :=
  shapeCast S2x256x16x64 (truncf .bf16 (Host.dotGeneral dot_S2x256x512_S512x1024_S2x256x1024_2_0_01_1_n_n none x wq) bitsLt_bf16_f32)
    shapeCasts_S2x256x1024_S2x256x16x64

/-- Which pairs of a query and a key are near enough. -/
def maskTab : IVec S256x256 1 :=
  cmpi .sle (absi (subi (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0)))))
    (broadcastInDim S256x256 ![] bcast_S_S256x256 (constantI S_ 32 128#32))

/-- The masked, scaled scores. -/
def scoreTab (q k : FVec F S2x256x16x64 .bf16) : FVec F S2x16x256x256 .f32 :=
  select (broadcastInDim S2x16x256x256 ![0, 1, 2, 3] bcast_S1x1x256x256_S2x16x256x256_0_1_2_3
      (broadcastInDim S1x1x256x256 ![2, 3] bcast_S256x256_S1x1x256x256_2_3 maskTab))
    (mulf (extf .f32 (truncf .bf16 (Host.dotGeneral dot_S2x256x16x64_S2x256x16x64_S2x16x256x256_3_3_1_1_02_02 none q k) bitsLt_bf16_f32) bitsLt_bf16_f32)
      (broadcastInDim S2x16x256x256 ![] bcast_S_S2x16x256x256 (constant S_ .f32 0x3E000000#32)))
    (broadcastInDim S2x16x256x256 ![] bcast_S_S2x16x256x256 (id (constant S_ .f32 0xCE6E6B28#32)))

/-- The greatest score of each row. -/
def maxTab (s : FVec F S2x16x256x256 .f32) : FVec F S2x16x256 .f32 :=
  Host.reduce FloatOps.maximumf s (constant S_ .f32 0xFF800000#32) reducesTo_S2x16x256x256_S2x16x256_d3 h_S_

/-- The scores less the greatest of their row, exponentiated. -/
def expTab (s : FVec F S2x16x256x256 .f32) : FVec F S2x16x256x256 .f32 :=
  Host.exp (subf s (broadcastInDim S2x16x256x256 ![0, 1, 2, 3] bcast_S2x16x256x1_S2x16x256x256_0_1_2_3
    (broadcastInDim S2x16x256x1 ![0, 1, 2] bcast_S2x16x256_S2x16x256x1_0_1_2 (maxTab s))))

/-- Which queries have a key near enough. -/
def keepTab : IVec S256 1 := Host.reduce IntOp.ori maskTab (constantI S_ 1 0#1) reducesTo_S256x256_S256_d1 h_S_

/-- The sum of each row. -/
def sumTab (w : FVec F S2x16x256x256 .f32) : FVec F S2x16x256 .f32 :=
  Host.reduceAdd w (constant S_ .f32 0x00000000#32) reducesTo_S2x16x256x256_S2x16x256_d3 h_S_

/-- The sum of each row with a key near enough, one for the others. -/
def normTab (w : FVec F S2x16x256x256 .f32) : FVec F S2x16x256x1 .f32 :=
  select (broadcastInDim S2x16x256x1 ![0, 1, 2, 3] bcast_S1x1x256x1_S2x16x256x1_0_1_2_3 (broadcastInDim S1x1x256x1 ![2] bcast_S256_S1x1x256x1_2 keepTab))
    (broadcastInDim S2x16x256x1 ![0, 1, 2] bcast_S2x16x256_S2x16x256x1_0_1_2 (sumTab w))
    (broadcastInDim S2x16x256x1 ![] bcast_S_S2x16x256x1 (id (constant S_ .f32 0x3F800000#32)))

/-- The weights. -/
def weightTab (w : FVec F S2x16x256x256 .f32) : FVec F S2x16x256x256 .f32 :=
  select (broadcastInDim S2x16x256x256 ![0, 1, 2, 3] bcast_S1x1x256x1_S2x16x256x256_0_1_2_3 (broadcastInDim S1x1x256x1 ![2] bcast_S256_S1x1x256x1_2 keepTab))
    (Host.divf w (broadcastInDim S2x16x256x256 ![0, 1, 2, 3] bcast_S2x16x256x1_S2x16x256x256_0_1_2_3 (normTab w)))
    (broadcastInDim S2x16x256x256 ![] bcast_S_S2x16x256x256 (id (constant S_ .f32 0x00000000#32)))

/-- The heads side by side. -/
def ctxTab (v : FVec F S2x256x16x64 .bf16) (w : FVec F S2x16x256x256 .f32) : FVec F S2x256x1024 .f32 :=
  shapeCast S2x256x1024 (transpose S2x256x16x64 [0, 3, 1, 2]
    (Host.dotGeneral dot_S2x256x16x64_S2x16x256x256_S2x16x64x256_1_3_3_2_02_01 none v w) transposes_S2x16x64x256_S2x256x16x64_0_3_1_2)
    shapeCasts_S2x256x16x64_S2x256x1024

/-- The output projection. -/
def outTab (a : FVec F S2x256x1024 .f32) (wo : FVec F S1024x512 .bf16) : FVec F S2x256x512 .f32 :=
  Host.dotGeneral dot_S2x256x1024_S1024x512_S2x256x512_2_0_01_1_n_n none a wo

/-- The whole layer. -/
def layer (x : FVec F S2x256x512 .bf16) (wq : FVec F S512x1024 .bf16) (k v : FVec F S2x256x16x64 .bf16) (wo : FVec F S1024x512 .bf16) :
    FVec F S2x256x512 .f32 :=
  outTab (ctxTab v (weightTab (expTab (scoreTab (qTab x wq) k)))) wo

/-- The reference's result is the layer of its arguments. -/
theorem result_eq (m : (ℓ : Loc nD τ sig) → Buf (Elt F) ℓ) (c : Dev nD) :
    Value.res_main_v37 m c = layer (m (c.tc.loc main_arg0)) (m (c.tc.loc main_arg1)) (m (c.tc.loc main_arg2)) (m (c.tc.loc main_arg3))
      (m (c.tc.loc main_arg4)) := rfl

end Any

/-- Column `d` of head `g`, among all sixteen heads side by side. -/
def colAll (g : Fin 16) (d : Fin 64) : Fin 1024 := ⟨64 * g.val + d.val, by omega⟩

/-- Head `h` of device `s`, among all sixteen heads. -/
def headNo (s h : Fin 4) : Fin 16 := ⟨4 * s.val + h.val, by omega⟩

/-- A sum over all columns is a sum over the devices, their heads and the heads' columns. -/
theorem sum_all {M : Type} [AddCommMonoid M] (f : Fin 1024 → M) :
    ∑ l, f l = ∑ s : Fin 4, ∑ h : Fin 4, ∑ d : Fin 64, f (colAll (headNo s h) d) := by
  have h1 : ∑ l, f l = ∑ s : Fin 4, ∑ l : Fin 256, f ⟨256 * s.val + l.val, by omega⟩ := by
    rw [← Fintype.sum_prod_type']
    refine (Fintype.sum_equiv (finProdFinEquiv (m := 4) (n := 256)) _ _ fun p => ?_).symm
    refine congrArg f (Fin.ext ?_)
    show 256 * p.1.val + p.2.val = p.2.val + 256 * p.1.val
    omega
  rw [h1]
  refine Finset.sum_congr rfl fun s _ => ?_
  rw [sum_cols]
  refine Finset.sum_congr rfl fun h _ => Finset.sum_congr rfl fun d _ => ?_
  refine congrArg f (Fin.ext ?_)
  show 256 * s.val + (64 * h.val + d.val) = 64 * (4 * s.val + h.val) + d.val
  omega

/-- A query at an element. -/
theorem q_at (x : FVec Ideal S2x256x512 .bf16) (wq : FVec Ideal S512x1024 .bf16) (b : Fin 2) (r : Fin 256) (g : Fin 16) (d : Fin 64) :
    qTab x wq (ix4 b r g d) = ∑ y : Fin 512, x (ix3 b r y) * wq (ix2 y (colAll g d)) := by
  have h : (⟨g.val * 64 + d.val, by omega⟩ : Fin 1024) = colAll g d := Fin.ext (by simp only [colAll]; omega)
  rw [← h]
  pointwise [qTab]

/-- The mask at an element. -/
theorem mask_at (i j : Fin 256) : maskTab (ix2 i j) = maskAt i j := by
  pointwise [maskTab]
  rfl

/-- A query and the key of its own row are near enough. -/
theorem mask_self (i : Fin 256) : maskAt i i = 1#1 := by
  unfold maskAt
  rw [show IntOp.subi (BitVec.ofNat 32 i.val) (BitVec.ofNat 32 i.val) = 0#32 from BitVec.sub_self _]
  decide

/-- Every query has a key near enough. -/
theorem keep_at (i : Fin 256) : keepTab (ix1 i) = 1#1 := by
  pointwise [keepTab]
  exact (Routing.fold_ori _ _).mpr ⟨i, Finset.mem_univ i, (mask_at i i).trans (mask_self i)⟩

/-- A score at an element. -/
theorem score_at (q k : FVec Ideal S2x256x16x64 .bf16) (b : Fin 2) (g : Fin 16) (i j : Fin 256) :
    scoreTab q k (ix4 b g i j) = scoreAt scaleC maskC (maskAt i j) (fun d => q (ix4 b i g d)) (fun d => k (ix4 b j g d)) := by
  rw [← mask_at]
  pointwise [scoreTab]
  rfl

/-- The greatest score of a row. -/
theorem max_at (s : FVec Ideal S2x16x256x256 .f32) (b : Fin 2) (g : Fin 16) (i : Fin 256) :
    maxTab s (ix3 b g i) = Finset.univ.fold max botC fun y => s (ix4 b g i y) := by
  pointwise [maxTab]
  rfl

/-- An exponentiated score at an element. -/
theorem exp_at (s : FVec Ideal S2x16x256x256 .f32) (b : Fin 2) (g : Fin 16) (i j : Fin 256) :
    expTab s (ix4 b g i j) = expAt botC (fun y => s (ix4 b g i y)) j := by
  unfold expAt
  rw [← max_at s b g i]
  pointwise [expTab]

/-- The sum of a row. -/
theorem sum_at (w : FVec Ideal S2x16x256x256 .f32) (b : Fin 2) (g : Fin 16) (i : Fin 256) :
    sumTab w (ix3 b g i) = ∑ y, w (ix4 b g i y) := by
  pointwise [sumTab]

/-- A choice at one is its first value. -/
theorem select_one (a b : EReal) : Scalar.select 1#1 a b = a := rfl

/-- What a row is divided by is its sum: every query has a key near enough. -/
theorem norm_at (w : FVec Ideal S2x16x256x256 .f32) (b : Fin 2) (g : Fin 16) (i : Fin 256) :
    normTab w (ix4 b g i 0) = ∑ y, w (ix4 b g i y) := by
  rw [← sum_at w b g i]
  pointwise [normTab]
  rw [keep_at]
  exact select_one _ _

/-- A weight at an element. -/
theorem weight_at (w : FVec Ideal S2x16x256x256 .f32) (b : Fin 2) (g : Fin 16) (i j : Fin 256) :
    weightTab w (ix4 b g i j) = Ideal.div (w (ix4 b g i j)) (∑ y, w (ix4 b g i y)) := by
  rw [← norm_at w b g i]
  pointwise [weightTab]
  rw [keep_at]
  exact select_one _ _

/-- The heads side by side, at an element. -/
theorem ctx_at (v : FVec Ideal S2x256x16x64 .bf16) (w : FVec Ideal S2x16x256x256 .f32) (b : Fin 2) (i : Fin 256) (g : Fin 16) (d : Fin 64) :
    ctxTab v w (ix3 b i (colAll g d)) = ∑ y, w (ix4 b g i y) * v (ix4 b y g d) := by
  pointwise [ctxTab, colAll]
  exact Finset.sum_congr rfl fun y _ => mul_comm _ _

/-- The output projection at an element. -/
theorem out_at (a : FVec Ideal S2x256x1024 .f32) (wo : FVec Ideal S1024x512 .bf16) (b : Fin 2) (i : Fin 256) (e : Fin 512) :
    outTab a wo (ix3 b i e) = ∑ l, a (ix3 b i l) * wo (ix2 l e) := by
  pointwise [outTab]

/-- Head `g` of batch `b`. -/
def headIn (x : FVec Ideal S2x256x512 .bf16) (wq : FVec Ideal S512x1024 .bf16) (k v : FVec Ideal S2x256x16x64 .bf16) (b : Fin 2) (g : Fin 16)
    (i : Fin 256) (d : Fin 64) : EReal :=
  headAt (fun r d => ∑ y : Fin 512, x (ix3 b r y) * wq (ix2 y (colAll g d))) (fun r d => k (ix4 b r g d)) (fun r d => v (ix4 b r g d)) i d

/-- The heads of the whole layer, at an element. -/
theorem head_at (x : FVec Ideal S2x256x512 .bf16) (wq : FVec Ideal S512x1024 .bf16) (k v : FVec Ideal S2x256x16x64 .bf16) (b : Fin 2) (g : Fin 16)
    (i : Fin 256) (d : Fin 64) :
    ctxTab v (weightTab (expTab (scoreTab (qTab x wq) k))) (ix3 b i (colAll g d)) = headIn x wq k v b g i d := by
  have hs : ∀ y, scoreTab (qTab x wq) k (ix4 b g i y)
      = scoreAt scaleC maskC (maskAt i y) (fun d => ∑ z : Fin 512, x (ix3 b i z) * wq (ix2 z (colAll g d))) (fun d => k (ix4 b y g d)) := fun y => by
    rw [score_at]
    simp only [q_at]
  rw [ctx_at]
  unfold headIn headAt mixAt
  refine Finset.sum_congr rfl fun y _ => ?_
  rw [weight_at]
  simp only [exp_at, hs]

/-- The whole layer at an element: the sum over the devices and their heads. -/
theorem layer_at (x : FVec Ideal S2x256x512 .bf16) (wq : FVec Ideal S512x1024 .bf16) (k v : FVec Ideal S2x256x16x64 .bf16)
    (wo : FVec Ideal S1024x512 .bf16) (b : Fin 2) (i : Fin 256) (e : Fin 512) :
    layer x wq k v wo (ix3 b i e)
      = ∑ s : Fin 4, ∑ h : Fin 4, ∑ d : Fin 64, headIn x wq k v b (headNo s h) i d * wo (ix2 (colAll (headNo s h) d) e) := by
  unfold layer
  rw [out_at, sum_all]
  refine Finset.sum_congr rfl fun s _ => Finset.sum_congr rfl fun h _ => Finset.sum_congr rfl fun d _ => ?_
  rw [head_at]

end Cert.ReferenceIdeal.Layer
-- ==== Proof.Tie.lean ====
/-
# The kernel and the reference meet

Every device cuts its own four heads out of the keys and the values, and its columns of the query weights and rows of the
output weights are its block of the whole. So a device's part of the output is the reference's sum over that device's
heads, and the sum of the four parts is the reference's result.
-/
module

public import proofs.«01_k».proof.Proof.KValue
public import proofs.«01_k».proof.Proof.KRegion
public import proofs.«01_k».proof.Proof.RValue
public import Idealize.ShloMosaic.Lib.Layout

@[expose] public section

noncomputable section

namespace Cert.KernelIdeal.Ring

open Cert.KernelIdeal Cert.KernelIdeal.Gen Cert.Attn
open Idealize.ShloMosaic Idealize.ShloMosaic.TcCoe
open Cert.ReferenceIdeal.Layer (headNo colAll headIn layer layer_at)

/-! ## The operands a device gives the kernel -/

/-- Where a device's heads start in the keys and the values. -/
def startOf (c : Dev nD) : Fin 4 → Int := ![0, 0, 4 * (c.val : Int), 0]

/-- A device's heads cut out, the heads before the rows. -/
def headTab (c : Dev nD) (x : FVec Ideal S2x256x16x64 .bf16) : FVec Ideal S2x4x256x64 .bf16 :=
  transpose S2x4x256x64 [0, 2, 1, 3] (Host.dynamicSlice S2x256x4x64 x (startOf c) sliceFits_S2x256x16x64_S2x256x4x64)
    transposes_S2x256x4x64_S2x4x256x64_0_2_1_3

/-- A device's heads lie inside, so they are cut where they start. -/
theorem start_at : ∀ c : Dev nD, ∀ h, Host.clampedStart S2x256x16x64 S2x256x4x64 h (startOf c) 0 = 0
    ∧ Host.clampedStart S2x256x16x64 S2x256x4x64 h (startOf c) 1 = 0 ∧ Host.clampedStart S2x256x16x64 S2x256x4x64 h (startOf c) 2 = 4 * c.val
    ∧ Host.clampedStart S2x256x16x64 S2x256x4x64 h (startOf c) 3 = 0 := by decide

/-- A device's heads at an element. -/
theorem headTab_at (c : Dev nD) (x : FVec Ideal S2x256x16x64 .bf16) (b : Fin 2) (h : Fin 4) (r : Fin 256) (d : Fin 64) :
    headTab c x (ix4 b h r d) = x (ix4 b r (headNo c h) d) := by
  pointwise [headTab]
  obtain ⟨h0, h1, h2, h3⟩ := start_at c (by decide)
  congr 1
  congr 1 <;> apply Fin.ext
  · exact (congrArg (· + b.val) h0).trans (Nat.zero_add _)
  · exact (congrArg (· + r.val) h1).trans (Nat.zero_add _)
  · exact congrArg (· + h.val) h2
  · exact (congrArg (· + d.val) h3).trans (Nat.zero_add _)

variable (m : (ℓ : Loc nD τ sig) → Buf (Elt Ideal) ℓ)

/-- The keys a device gives the kernel are its own heads of the keys. -/
theorem keys_eq (c : Dev nD) : V1 m c main_v15 = headTab c (m (c.tc.loc main_arg2)) := by
  unfold V1
  after_results_simp
  refine congrArg (fun st => transpose S2x4x256x64 [0, 2, 1, 3]
    (Host.dynamicSlice S2x256x4x64 (V0 m c main_arg2) st sliceFits_S2x256x16x64_S2x256x4x64) transposes_S2x256x4x64_S2x4x256x64_0_2_1_3)
    (funext fun k => ?_)
  fin_cases k
  · show BitVec.toInt ((_ : Valuation τ sig (Elt Ideal)) (Proc.devRef .tc main_c_4) (Shape.Idx.first h_S_)) = 0
    after_results_simp
    rfl
  · show BitVec.toInt ((_ : Valuation τ sig (Elt Ideal)) (Proc.devRef .tc main_c_5) (Shape.Idx.first h_S_)) = 0
    after_results_simp
    rfl
  · show BitVec.toInt ((_ : Valuation τ sig (Elt Ideal)) (Proc.devRef .tc main_v8) (Shape.Idx.first h_S_)) = 4 * (c.val : Int)
    after_results_simp
    revert c; decide
  · show BitVec.toInt ((_ : Valuation τ sig (Elt Ideal)) (Proc.devRef .tc main_c_6) (Shape.Idx.first h_S_)) = 0
    after_results_simp
    rfl

/-- The values a device gives the kernel are its own heads of the values. -/
theorem vals_eq (c : Dev nD) : V1 m c main_v16 = headTab c (m (c.tc.loc main_arg3)) := by
  unfold V1
  after_results_simp
  refine congrArg (fun st => transpose S2x4x256x64 [0, 2, 1, 3]
    (Host.dynamicSlice S2x256x4x64 (V0 m c main_arg3) st sliceFits_S2x256x16x64_S2x256x4x64) transposes_S2x256x4x64_S2x4x256x64_0_2_1_3)
    (funext fun k => ?_)
  fin_cases k
  · show BitVec.toInt ((_ : Valuation τ sig (Elt Ideal)) (Proc.devRef .tc main_c_10) (Shape.Idx.first h_S_)) = 0
    after_results_simp
    rfl
  · show BitVec.toInt ((_ : Valuation τ sig (Elt Ideal)) (Proc.devRef .tc main_c_11) (Shape.Idx.first h_S_)) = 0
    after_results_simp
    rfl
  · show BitVec.toInt ((_ : Valuation τ sig (Elt Ideal)) (Proc.devRef .tc main_v13) (Shape.Idx.first h_S_)) = 4 * (c.val : Int)
    after_results_simp
    revert c; decide
  · show BitVec.toInt ((_ : Valuation τ sig (Elt Ideal)) (Proc.devRef .tc main_c_12) (Shape.Idx.first h_S_)) = 0
    after_results_simp
    rfl

/-! ## One device's part, and the sum of the four -/

variable (x : FVec Ideal S2x256x512 .bf16) (wq : FVec Ideal Cert.ReferenceIdeal.S512x1024 .bf16) (k v : FVec Ideal S2x256x16x64 .bf16)
  (wo : FVec Ideal Cert.ReferenceIdeal.S1024x512 .bf16)

/-- The devices hold the arguments: tokens, keys and values whole, of the query weights the device's columns and of the
    output weights the device's rows. -/
structure Holds : Prop where
  x : ∀ c : Dev nD, m (c.tc.loc main_arg0) = x
  wq : ∀ c : Dev nD, m (c.tc.loc main_arg1) = Layout.block ⟨2, ![512, 256]⟩ ⟨2, ![512, 1024]⟩ 1 4 c wq
  k : ∀ c : Dev nD, m (c.tc.loc main_arg2) = k
  v : ∀ c : Dev nD, m (c.tc.loc main_arg3) = v
  wo : ∀ c : Dev nD, m (c.tc.loc main_arg4) = Layout.block ⟨2, ![256, 512]⟩ ⟨2, ![1024, 512]⟩ 0 4 c wo

variable {m x wq k v wo} (H : Holds m x wq k v wo)
include H

/-- A token row's entry, on any device. -/
theorem xE_eq (c : Dev nD) (b : Fin 2) (r : Fin 256) (y : Fin 512) : xE (ins m c) b r y = x (ix3 b r y) :=
  congrFun ((V1_of m c main_arg0 (by decide)).trans (H.x c)) (ix3 b r y)

/-- A device's query weight is the whole's, in the device's columns. -/
theorem wqE_eq (c : Dev nD) (y : Fin 512) (h : Fin 4) (d : Fin 64) : wqE (ins m c) y (colAt h d) = wq (ix2 y (colAll (headNo c h) d)) := by
  refine (congrFun ((V1_of m c main_arg1 (by decide)).trans (H.wq c)) (ix2 y (colAt h d))).trans ?_
  refine congrArg wq (funext fun a => Fin.ext ?_)
  have hc : c.val * 256 + (64 * h.val + d.val) = 64 * (4 * c.val + h.val) + d.val := by omega
  fin_cases a
  · rfl
  · exact hc

/-- A device's output weight is the whole's, in the device's rows. -/
theorem woE_eq (c : Dev nD) (h : Fin 4) (d : Fin 64) (e : Fin 512) : woE (ins m c) (colAt h d) e = wo (ix2 (colAll (headNo c h) d) e) := by
  refine (congrFun ((V1_of m c main_arg4 (by decide)).trans (H.wo c)) (ix2 (colAt h d) e)).trans ?_
  refine congrArg wo (funext fun a => Fin.ext ?_)
  have hc : c.val * 256 + (64 * h.val + d.val) = 64 * (4 * c.val + h.val) + d.val := by omega
  fin_cases a
  · exact hc
  · rfl

/-- A device's keys are its own heads of the keys. -/
theorem kE_eq (c : Dev nD) (b : Fin 2) (h : Fin 4) (r : Fin 256) (d : Fin 64) : (ins m c).k (ix4 b h r d) = k (ix4 b r (headNo c h) d) :=
  (congrFun (keys_eq m c) (ix4 b h r d)).trans ((headTab_at c _ b h r d).trans (congrFun (H.k c) _))

/-- A device's values are its own heads of the values. -/
theorem vE_eq (c : Dev nD) (b : Fin 2) (h : Fin 4) (r : Fin 256) (d : Fin 64) : (ins m c).v (ix4 b h r d) = v (ix4 b r (headNo c h) d) :=
  (congrFun (vals_eq m c) (ix4 b h r d)).trans ((headTab_at c _ b h r d).trans (congrFun (H.v c) _))

/-- A device's head is the reference's head of the same number. -/
theorem head_eq (c : Dev nD) (b : Fin 2) (h : Fin 4) (i : Fin 256) (d : Fin 64) :
    headOf (ins m c) b h i d = headIn x wq k v b (headNo c h) i d := by
  have hq : (fun (r : Fin 256) (d : Fin 64) => ∑ y : Fin 512, xE (ins m c) b r y * wqE (ins m c) y (colAt h d))
      = fun r d => ∑ y : Fin 512, x (ix3 b r y) * wq (ix2 y (colAll (headNo c h) d)) := by
    funext r d
    exact Finset.sum_congr rfl fun y _ => congrArg₂ (· * ·) (xE_eq H c b r y) (wqE_eq H c y h d)
  have hk : (fun (r : Fin 256) (d : Fin 64) => (ins m c).k (ix4 b h r d)) = fun r d => k (ix4 b r (headNo c h) d) := by
    funext r d; exact kE_eq H c b h r d
  have hv : (fun (r : Fin 256) (d : Fin 64) => (ins m c).v (ix4 b h r d)) = fun r d => v (ix4 b r (headNo c h) d) := by
    funext r d; exact vE_eq H c b h r d
  show headAt _ _ _ i d = headAt _ _ _ i d
  rw [hq]
  exact congrArg₂ (fun p q => headAt _ p q i d) hk hv

/-- A device's part of the output is the reference's sum over that device's heads. -/
theorem partE_eq (c : Dev nD) (b : Fin 2) (r : Fin 256) (e : Fin 512) :
    partE (ins m) c b r e
      = ∑ h : Fin 4, ∑ d : Fin 64, headIn x wq k v b (headNo c h) r d * (show EReal from wo (ix2 (colAll (headNo c h) d) e)) :=
  (part_at (ins m c) b r e).trans (Finset.sum_congr rfl fun h _ => Finset.sum_congr rfl fun d _ =>
    congrArg₂ (· * ·) (head_eq H c b h r d) (woE_eq H c h d e))

/-- The sum of the four parts is the reference's layer. -/
theorem sum_eq (b : Fin 2) (r : Fin 256) (e : Fin 512) : (∑ s : Fin 4, partE (ins m) s b r e) = layer x wq k v wo (ix3 b r e) := by
  rw [layer_at]
  exact Finset.sum_congr rfl fun s _ => partE_eq H s b r e

/-- What the kernel leaves in the result on any device is the reference's layer. -/
theorem out_eq (c : Dev nD) : outOf (ins m) c = layer x wq k v wo := by
  funext i
  have hi : i = (ix3 (i 0) (i 1) (i 2) : S2x256x512.Idx) := by funext a; fin_cases a <;> rfl
  rw [hi]
  exact (out_at (ins m) c (i 0) (i 1) (i 2)).trans (sum_eq H (i 0) (i 1) (i 2))

end Cert.KernelIdeal.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.BLaunch
public import proofs.«01_k».proof.Proof.KLaunch
public import proofs.«01_k».proof.Proof.Tie
public import Idealize.ShloMosaic.Adequacy
public import Idealize.ShloMosaic.Init

@[expose] public section

noncomputable section

namespace Cert.Proof

open Idealize.ShloMosaic Idealize.SL.Sem Cert.Kernel

/-- The kernel as printed keeps its five arguments and ends with every counter at zero. -/
theorem frame_kernel : Cert.quiescent_Kernel := fun m ρ _ =>
  (θ_run Cert.Kernel.defs _ _).mono (fun _ h => ⟨fun c =>
      ⟨(h.1 c).1 _ (by simp), (h.1 c).1 _ (by simp), (h.1 c).1 _ (by simp), (h.1 c).1 _ (by simp), (h.1 c).1 _ (by simp)⟩, h.2⟩)
    (Cert.Kernel.Ring.run_main (F := Bits) m ρ)

/-- The kernel's ideal reading keeps its five arguments and ends with every counter at zero. -/
theorem frame_kernelIdeal : Cert.quiescent_KernelIdeal := fun m ρ _ =>
  (θ_run Cert.KernelIdeal.defs _ _).mono (fun _ h => ⟨fun c =>
      ⟨(h.1 c).1 _ (by simp), (h.1 c).1 _ (by simp), (h.1 c).1 _ (by simp), (h.1 c).1 _ (by simp), (h.1 c).1 _ (by simp)⟩, h.2⟩)
    (Cert.KernelIdeal.Ring.run_main (F := Ideal) m ρ)

/-- The reference is a straight line of host operations that declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments, cut over the devices as the kernel takes them, every device of the kernel's ideal reading ends
    with the reference's result. -/
theorem algebraic : Cert.algebraic_KernelIdeal_ReferenceIdeal := fun m g m' g' _ hm =>
  ⟨Cert.ReferenceIdeal.Value.res_main_v37 m' 0,
    (θ_run Cert.KernelIdeal.defs _ _).mono (fun _ h c =>
        ⟨(h.1 c).2.trans (Cert.KernelIdeal.Ring.out_eq
            ⟨fun c => (hm c).1, fun c => (hm c).2.1, fun c => (hm c).2.2.1, fun c => (hm c).2.2.2.1, fun c => (hm c).2.2.2.2⟩ c),
          (h.1 c).1 _ (by simp), (h.1 c).1 _ (by simp), (h.1 c).1 _ (by simp), (h.1 c).1 _ (by simp), (h.1 c).1 _ (by simp)⟩)
      (Cert.KernelIdeal.Ring.run_main (F := Ideal) m g),
    (θ_run Cert.ReferenceIdeal.defs _ _).mono (fun _ h => h 0) (Cert.ReferenceIdeal.Value.run (F := Ideal) m' g')⟩

/-- Every claim of the certificate. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
